-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110_0) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v110_1) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S6x256x1024 : Shape := ⟨3, ![6, 256, 1024]⟩
abbrev S1024 : Shape := ⟨1, ![1024]⟩
abbrev S6 : Shape := ⟨1, ![6]⟩
abbrev S6x1024 : Shape := ⟨2, ![6, 1024]⟩
abbrev S4096x1024 : Shape := ⟨2, ![4096, 1024]⟩
abbrev S32x8 : Shape := ⟨2, ![32, 8]⟩
abbrev S_ : Shape := ⟨0, ![]⟩
abbrev S6x256 : Shape := ⟨2, ![6, 256]⟩
abbrev S6x256x1 : Shape := ⟨3, ![6, 256, 1]⟩
abbrev S1x1x1024 : Shape := ⟨3, ![1, 1, 1024]⟩
abbrev S256 : Shape := ⟨1, ![256]⟩
abbrev S1x256 : Shape := ⟨2, ![1, 256]⟩
abbrev S6x1 : Shape := ⟨2, ![6, 1]⟩
abbrev S6x1x1024 : Shape := ⟨3, ![6, 1, 1024]⟩

class Facts : Prop where
  bitsLt_bf16_f32 : FTy.bits .bf16 < FTy.bits .f32
  reducesTo_S6x256x1024_S6x256_d2 : S6x256x1024.ReducesTo [2] S6x256
  h_S_ : 0 < S_.numel
  bcast_S6x256_S6x256x1_0_1 : S6x256.BroadcastsInDim S6x256x1 (![0, 1] : Fin 2 → Fin S6x256x1.rank)
  bcast_S_S6x256x1 : S_.BroadcastsInDim S6x256x1 (![] : Fin 0 → Fin S6x256x1.rank)
  bcast_S6x256x1_S6x256x1024_0_1_2 : S6x256x1.BroadcastsInDim S6x256x1024 (![0, 1, 2] : Fin 3 → Fin S6x256x1024.rank)
  bcast_S1024_S1x1x1024_2 : S1024.BroadcastsInDim S1x1x1024 (![2] : Fin 1 → Fin S1x1x1024.rank)
  bcast_S1x1x1024_S6x256x1024_0_1_2 : S1x1x1024.BroadcastsInDim S6x256x1024 (![0, 1, 2] : Fin 3 → Fin S6x256x1024.rank)
  bcast_S256_S1x256_1 : S256.BroadcastsInDim S1x256 (![1] : Fin 1 → Fin S1x256.rank)
  bcast_S6_S6x1_0 : S6.BroadcastsInDim S6x1 (![0] : Fin 1 → Fin S6x1.rank)
  bcast_S1x256_S6x256_0_1 : S1x256.BroadcastsInDim S6x256 (![0, 1] : Fin 2 → Fin S6x256.rank)
  bcast_S6x1_S6x256_0_1 : S6x1.BroadcastsInDim S6x256 (![0, 1] : Fin 2 → Fin S6x256.rank)
  reducesTo_S6x256x1024_S6x1024_d1 : S6x256x1024.ReducesTo [1] S6x1024
  bcast_S6x1_S6x1024_0_1 : S6x1.BroadcastsInDim S6x1024 (![0, 1] : Fin 2 → Fin S6x1024.rank)
  reducesTo_S6x1024_S6_d1 : S6x1024.ReducesTo [1] S6
  bcast_S6x1024_S6x1x1024_0_2 : S6x1024.BroadcastsInDim S6x1x1024 (![0, 2] : Fin 2 → Fin S6x1x1024.rank)
  bcast_S6x1x1024_S6x256x1024_0_1_2 : S6x1x1024.BroadcastsInDim S6x256x1024 (![0, 1, 2] : Fin 3 → Fin S6x256x1024.rank)
  reducesTo_S6x256x1024_S1024_d0_1 : S6x256x1024.ReducesTo [0, 1] S1024
  bcast_S_S1024 : S_.BroadcastsInDim S1024 (![] : Fin 0 → Fin S1024.rank)
  reducesTo_S1024_S_d0 : S1024.ReducesTo [0] S_
  bcast_S_S6x1024 : S_.BroadcastsInDim S6x1024 (![] : Fin 0 → Fin S6x1024.rank)
  reducesTo_S6x1024_S_d0_1 : S6x1024.ReducesTo [0, 1] S_
  bcast_S_S6x1 : S_.BroadcastsInDim S6x1 (![] : Fin 0 → Fin S6x1.rank)
  reducesTo_S6x1_S_d0_1 : S6x1.ReducesTo [0, 1] S_
  bcast_S_S6x256x1024 : S_.BroadcastsInDim S6x256x1024 (![] : Fin 0 → Fin S6x256x1024.rank)
  reducesTo_S6x256x1024_S_d0_1_2 : S6x256x1024.ReducesTo [0, 1, 2] S_

variable [Facts]

def fn_part5 {F : FTy → Type} [FloatOps F] (main_v93 : IVec S_ 1) (main_v96 : FVec F S6x256x1024 .f32) (main_v97 : FVec F S6x256x1024 .f32) : IVec S_ 1 :=
  let main_v98 : IVec S6x256x1024 1 := cmpf .olt main_v96 main_v97
  let main_c_20 : IVec S_ 1 := constantI S_ 1 1#1
  let main_v99 : IVec S_ 1 := (fun x v => Host.reduce IntOp.andi x v reducesTo_S6x256x1024_S_d0_1_2 h_S_) main_v98 main_c_20
  let main_v100 : IVec S_ 1 := andi main_v93 main_v99
  main_v100

def fn_part4 {F : FTy → Type} [FloatOps F] (main_arg4 : FVec F S6x1024 .f32) (main_v41 : FVec F S6x1 .f32) (main_v80 : FVec F S6x256x1024 .f32) (main_v81 : FVec F S1024 .f32) : IVec S_ 1 :=
  let main_cst_13 : FVec F S_ .f32 := constant S_ .f32 0x7F800000#32
  let main_v82 : FVec F S1024 .f32 := broadcastInDim S1024 ![] bcast_S_S1024 main_cst_13
  let main_v83 : IVec S1024 1 := cmpf .olt main_v81 main_v82
  let main_c : IVec S_ 1 := constantI S_ 1 1#1
  let main_v84 : IVec S_ 1 := (fun x v => Host.reduce IntOp.andi x v reducesTo_S1024_S_d0 h_S_) main_v83 main_c
  let main_v85 : FVec F S6x1024 .f32 := Host.absf main_arg4
  let main_cst_14 : FVec F S_ .f32 := constant S_ .f32 0x7F800000#32
  let main_v86 : FVec F S6x1024 .f32 := broadcastInDim S6x1024 ![] bcast_S_S6x1024 main_cst_14
  let main_v87 : IVec S6x1024 1 := cmpf .olt main_v85 main_v86
  let main_c_15 : IVec S_ 1 := constantI S_ 1 1#1
  let main_v88 : IVec S_ 1 := (fun x v => Host.reduce IntOp.andi x v reducesTo_S6x1024_S_d0_1 h_S_) main_v87 main_c_15
  let main_v89 : IVec S_ 1 := andi main_v84 main_v88
  let main_cst_16 : FVec F S_ .f32 := constant S_ .f32 0x00000000#32
  let main_v90 : FVec F S6x1 .f32 := broadcastInDim S6x1 ![] bcast_S_S6x1 main_cst_16
  let main_v91 : IVec S6x1 1 := cmpf .ogt main_v41 main_v90
  let main_c_17 : IVec S_ 1 := constantI S_ 1 1#1
  let main_v92 : IVec S_ 1 := (fun x v => Host.reduce IntOp.andi x v reducesTo_S6x1_S_d0_1 h_S_) main_v91 main_c_17
  let main_v93 : IVec S_ 1 := andi main_v89 main_v92
  let main_v94 : FVec F S6x256x1024 .f32 := Host.absf main_v80
  let main_cst_18 : FVec F S_ .f32 := constant S_ .f32 0x37924925#32
  let main_v95 : FVec F S6x256x1024 .f32 := broadcastInDim S6x256x1024 ![] bcast_S_S6x256x1024 main_cst_18
  let main_v96 : FVec F S6x256x1024 .f32 := mulf main_v94 main_v95
  let main_cst_19 : FVec F S_ .f32 := constant S_ .f32 0x7E800000#32
  let main_v97 : FVec F S6x256x1024 .f32 := broadcastInDim S6x256x1024 ![] bcast_S_S6x256x1024 main_cst_19
  fn_part5 (F := F) main_v93 main_v96 main_v97

def fn_part3 {F : FTy → Type} [FloatOps F] (main_arg1 : FVec F S1024 .f32) (main_arg4 : FVec F S6x1024 .f32) (main_v14 : FVec F S6x256x1 .f32) (main_v16 : FVec F S6x256x1024 .f32) (main_v41 : FVec F S6x1 .f32) (main_v58 : FVec F S6x256x1024 .f32) : IVec S_ 1 :=
  let main_v62 : FVec F S1x1x1024 .f32 := broadcastInDim S1x1x1024 ![2] bcast_S1024_S1x1x1024_2 main_arg1
  let main_v63 : FVec F S6x256x1024 .f32 := broadcastInDim S6x256x1024 ![0, 1, 2] bcast_S1x1x1024_S6x256x1024_0_1_2 main_v62
  let main_v64 : FVec F S6x256x1024 .f32 := mulf main_v58 main_v63
  let main_cst_9 : FVec F S_ .f32 := constant S_ .f32 0x00000000#32
  let main_v65 : FVec F S6x256 .f32 := (fun x v => Host.reduceAdd x v reducesTo_S6x256x1024_S6x256_d2 h_S_) main_v64 main_cst_9
  let main_v66 : FVec F S6x256x1 .f32 := broadcastInDim S6x256x1 ![0, 1] bcast_S6x256_S6x256x1_0_1 main_v65
  let main_cst_10 : FVec F S_ .f32 := constant S_ .f32 0x44800000#32
  let main_v67 : FVec F S6x256x1 .f32 := broadcastInDim S6x256x1 ![] bcast_S_S6x256x1 main_cst_10
  let main_v68 : FVec F S6x256x1 .f32 := Host.divf main_v66 main_v67
  let main_v69 : FVec F S6x256x1024 .f32 := broadcastInDim S6x256x1024 ![0, 1, 2] bcast_S6x256x1_S6x256x1024_0_1_2 main_v68
  let main_v70 : FVec F S6x256x1024 .f32 := subf main_v64 main_v69
  let main_v71 : FVec F S6x256x1024 .f32 := mulf main_v64 main_v16
  let main_cst_11 : FVec F S_ .f32 := constant S_ .f32 0x00000000#32
  let main_v72 : FVec F S6x256 .f32 := (fun x v => Host.reduceAdd x v reducesTo_S6x256x1024_S6x256_d2 h_S_) main_v71 main_cst_11
  let main_v73 : FVec F S6x256x1 .f32 := broadcastInDim S6x256x1 ![0, 1] bcast_S6x256_S6x256x1_0_1 main_v72
  let main_cst_12 : FVec F S_ .f32 := constant S_ .f32 0x44800000#32
  let main_v74 : FVec F S6x256x1 .f32 := broadcastInDim S6x256x1 ![] bcast_S_S6x256x1 main_cst_12
  let main_v75 : FVec F S6x256x1 .f32 := Host.divf main_v73 main_v74
  let main_v76 : FVec F S6x256x1024 .f32 := broadcastInDim S6x256x1024 ![0, 1, 2] bcast_S6x256x1_S6x256x1024_0_1_2 main_v75
  let main_v77 : FVec F S6x256x1024 .f32 := mulf main_v16 main_v76
  let main_v78 : FVec F S6x256x1024 .f32 := subf main_v70 main_v77
  let main_v79 : FVec F S6x256x1024 .f32 := broadcastInDim S6x256x1024 ![0, 1, 2] bcast_S6x256x1_S6x256x1024_0_1_2 main_v14
  let main_v80 : FVec F S6x256x1024 .f32 := mulf main_v79 main_v78
  let main_v81 : FVec F S1024 .f32 := Host.absf main_arg1
  fn_part4 (F := F) main_arg4 main_v41 main_v80 main_v81

def fn_part2 {F : FTy → Type} [FloatOps F] (main_arg1 : FVec F S1024 .f32) (main_arg4 : FVec F S6x1024 .f32) (main_v14 : FVec F S6x256x1 .f32) (main_v16 : FVec F S6x256x1024 .f32) (main_v29 : FVec F S6x256 .f32) (main_v31 : FVec F S6x1 .f32) (main_v37 : FVec F S6x1024 .f32) (main_v40 : FVec F S6x1 .f32) : IVec S_ 1 :=
  let main_v41 : FVec F S6x1 .f32 := Host.sqrt main_v40
  let main_v42 : FVec F S6x1024 .f32 := broadcastInDim S6x1024 ![0, 1] bcast_S6x1_S6x1024_0_1 main_v41
  let main_v43 : FVec F S6x1024 .f32 := Host.divf main_v37 main_v42
  let main_v44 : FVec F S6x1024 .f32 := mulf main_v43 main_arg4
  let main_cst_6 : FVec F S_ .f32 := constant S_ .f32 0x00000000#32
  let main_v45 : FVec F S6 .f32 := (fun x v => Host.reduceAdd x v reducesTo_S6x1024_S6_d1 h_S_) main_v44 main_cst_6
  let main_v46 : FVec F S6x1 .f32 := broadcastInDim S6x1 ![0] bcast_S6_S6x1_0 main_v45
  let main_v47 : FVec F S6x1024 .f32 := broadcastInDim S6x1024 ![0, 1] bcast_S6x1_S6x1024_0_1 main_v46
  let main_v48 : FVec F S6x1024 .f32 := mulf main_v43 main_v47
  let main_v49 : FVec F S6x1024 .f32 := subf main_arg4 main_v48
  let main_v50 : FVec F S6x1024 .f32 := broadcastInDim S6x1024 ![0, 1] bcast_S6x1_S6x1024_0_1 main_v41
  let main_v51 : FVec F S6x1024 .f32 := Host.divf main_v49 main_v50
  let main_v52 : FVec F S6x256x1 .f32 := broadcastInDim S6x256x1 ![0, 1] bcast_S6x256_S6x256x1_0_1 main_v29
  let main_v53 : FVec F S6x1024 .f32 := broadcastInDim S6x1024 ![0, 1] bcast_S6x1_S6x1024_0_1 main_v31
  let main_v54 : FVec F S6x1024 .f32 := Host.divf main_v51 main_v53
  let main_v55 : FVec F S6x1x1024 .f32 := broadcastInDim S6x1x1024 ![0, 2] bcast_S6x1024_S6x1x1024_0_2 main_v54
  let main_v56 : FVec F S6x256x1024 .f32 := broadcastInDim S6x256x1024 ![0, 1, 2] bcast_S6x256x1_S6x256x1024_0_1_2 main_v52
  let main_v57 : FVec F S6x256x1024 .f32 := broadcastInDim S6x256x1024 ![0, 1, 2] bcast_S6x1x1024_S6x256x1024_0_1_2 main_v55
  let main_v58 : FVec F S6x256x1024 .f32 := mulf main_v56 main_v57
  let main_v59 : FVec F S6x256x1024 .f32 := mulf main_v58 main_v16
  let main_cst_7 : FVec F S_ .f32 := constant S_ .f32 0x00000000#32
  let main_v60 : FVec F S1024 .f32 := (fun x v => Host.reduceAdd x v reducesTo_S6x256x1024_S1024_d0_1 h_S_) main_v59 main_cst_7
  let main_cst_8 : FVec F S_ .f32 := constant S_ .f32 0x00000000#32
  let main_v61 : FVec F S1024 .f32 := (fun x v => Host.reduceAdd x v reducesTo_S6x256x1024_S1024_d0_1 h_S_) main_v58 main_cst_8
  fn_part3 (F := F) main_arg1 main_arg4 main_v14 main_v16 main_v41 main_v58

def fn_part1 {F : FTy → Type} [FloatOps F] (main_arg1 : FVec F S1024 .f32) (main_arg2 : FVec F S1024 .f32) (main_arg3 : IVec S6 32) (main_arg4 : FVec F S6x1024 .f32) (main_v14 : FVec F S6x256x1 .f32) (main_v16 : FVec F S6x256x1024 .f32) (main_v18 : FVec F S6x256x1024 .f32) : IVec S_ 1 :=
  let main_v19 : FVec F S6x256x1024 .f32 := mulf main_v16 main_v18
  let main_v20 : FVec F S1x1x1024 .f32 := broadcastInDim S1x1x1024 ![2] bcast_S1024_S1x1x1024_2 main_arg2
  let main_v21 : FVec F S6x256x1024 .f32 := broadcastInDim S6x256x1024 ![0, 1, 2] bcast_S1x1x1024_S6x256x1024_0_1_2 main_v20
  let main_v22 : FVec F S6x256x1024 .f32 := addf main_v19 main_v21
  let main_v23 : IVec S256 32 := iotaInDim S256 32 0
  let main_v24 : IVec S1x256 32 := broadcastInDim S1x256 ![1] bcast_S256_S1x256_1 main_v23
  let main_v25 : IVec S6x1 32 := broadcastInDim S6x1 ![0] bcast_S6_S6x1_0 main_arg3
  let main_v26 : IVec S6x256 32 := broadcastInDim S6x256 ![0, 1] bcast_S1x256_S6x256_0_1 main_v24
  let main_v27 : IVec S6x256 32 := broadcastInDim S6x256 ![0, 1] bcast_S6x1_S6x256_0_1 main_v25
  let main_v28 : IVec S6x256 1 := cmpi .slt main_v26 main_v27
  let main_v29 : FVec F S6x256 .f32 := uitofp .f32 main_v28
  let main_v30 : FVec F S6 .f32 := sitofp .f32 main_arg3
  let main_v31 : FVec F S6x1 .f32 := broadcastInDim S6x1 ![0] bcast_S6_S6x1_0 main_v30
  let main_v32 : FVec F S6x256x1 .f32 := broadcastInDim S6x256x1 ![0, 1] bcast_S6x256_S6x256x1_0_1 main_v29
  let main_v33 : FVec F S6x256x1024 .f32 := broadcastInDim S6x256x1024 ![0, 1, 2] bcast_S6x256x1_S6x256x1024_0_1_2 main_v32
  let main_v34 : FVec F S6x256x1024 .f32 := mulf main_v33 main_v22
  let main_cst_4 : FVec F S_ .f32 := constant S_ .f32 0x00000000#32
  let main_v35 : FVec F S6x1024 .f32 := (fun x v => Host.reduceAdd x v reducesTo_S6x256x1024_S6x1024_d1 h_S_) main_v34 main_cst_4
  let main_v36 : FVec F S6x1024 .f32 := broadcastInDim S6x1024 ![0, 1] bcast_S6x1_S6x1024_0_1 main_v31
  let main_v37 : FVec F S6x1024 .f32 := Host.divf main_v35 main_v36
  let main_v38 : FVec F S6x1024 .f32 := mulf main_v37 main_v37
  let main_cst_5 : FVec F S_ .f32 := constant S_ .f32 0x00000000#32
  let main_v39 : FVec F S6 .f32 := (fun x v => Host.reduceAdd x v reducesTo_S6x1024_S6_d1 h_S_) main_v38 main_cst_5
  let main_v40 : FVec F S6x1 .f32 := broadcastInDim S6x1 ![0] bcast_S6_S6x1_0 main_v39
  fn_part2 (F := F) main_arg1 main_arg4 main_v14 main_v16 main_v29 main_v31 main_v37 main_v40

def fn {F : FTy → Type} [FloatOps F] (main_arg0 : FVec F S6x256x1024 .bf16) (main_arg1 : FVec F S1024 .f32) (main_arg2 : FVec F S1024 .f32) (main_arg3 : IVec S6 32) (main_arg4 : FVec F S6x1024 .f32) (main_arg5 : FVec F S4096x1024 .fp8e4m3) (main_arg6 : FVec F S32x8 .f32) : IVec S_ 1 :=
  let main_v0 : FVec F S6x256x1024 .f32 := (extf .f32 · bitsLt_bf16_f32) main_arg0
  let main_cst : FVec F S_ .f32 := constant S_ .f32 0x00000000#32
  let main_v1 : FVec F S6x256 .f32 := (fun x v => Host.reduceAdd x v reducesTo_S6x256x1024_S6x256_d2 h_S_) main_v0 main_cst
  let main_v2 : FVec F S6x256x1 .f32 := broadcastInDim S6x256x1 ![0, 1] bcast_S6x256_S6x256x1_0_1 main_v1
  let main_cst_0 : FVec F S_ .f32 := constant S_ .f32 0x44800000#32
  let main_v3 : FVec F S6x256x1 .f32 := broadcastInDim S6x256x1 ![] bcast_S_S6x256x1 main_cst_0
  let main_v4 : FVec F S6x256x1 .f32 := Host.divf main_v2 main_v3
  let main_v5 : FVec F S6x256x1024 .f32 := broadcastInDim S6x256x1024 ![0, 1, 2] bcast_S6x256x1_S6x256x1024_0_1_2 main_v4
  let main_v6 : FVec F S6x256x1024 .f32 := subf main_v0 main_v5
  let main_v7 : FVec F S6x256x1024 .f32 := mulf main_v6 main_v6
  let main_cst_1 : FVec F S_ .f32 := constant S_ .f32 0x00000000#32
  let main_v8 : FVec F S6x256 .f32 := (fun x v => Host.reduceAdd x v reducesTo_S6x256x1024_S6x256_d2 h_S_) main_v7 main_cst_1
  let main_v9 : FVec F S6x256x1 .f32 := broadcastInDim S6x256x1 ![0, 1] bcast_S6x256_S6x256x1_0_1 main_v8
  let main_cst_2 : FVec F S_ .f32 := constant S_ .f32 0x44800000#32
  let main_v10 : FVec F S6x256x1 .f32 := broadcastInDim S6x256x1 ![] bcast_S_S6x256x1 main_cst_2
  let main_v11 : FVec F S6x256x1 .f32 := Host.divf main_v9 main_v10
  let main_cst_3 : FVec F S_ .f32 := constant S_ .f32 0x3727C5AC#32
  let main_v12 : FVec F S6x256x1 .f32 := broadcastInDim S6x256x1 ![] bcast_S_S6x256x1 main_cst_3
  let main_v13 : FVec F S6x256x1 .f32 := addf main_v11 main_v12
  let main_v14 : FVec F S6x256x1 .f32 := Host.rsqrt main_v13
  let main_v15 : FVec F S6x256x1024 .f32 := broadcastInDim S6x256x1024 ![0, 1, 2] bcast_S6x256x1_S6x256x1024_0_1_2 main_v14
  let main_v16 : FVec F S6x256x1024 .f32 := mulf main_v6 main_v15
  let main_v17 : FVec F S1x1x1024 .f32 := broadcastInDim S1x1x1024 ![2] bcast_S1024_S1x1x1024_2 main_arg1
  let main_v18 : FVec F S6x256x1024 .f32 := broadcastInDim S6x256x1024 ![0, 1, 2] bcast_S1x1x1024_S6x256x1024_0_1_2 main_v17
  fn_part1 (F := F) main_arg1 main_arg2 main_arg3 main_arg4 main_v14 main_v16 main_v18
-- ==== Kernel.lean ====
abbrev S6x256x1024 : Shape := ⟨3, ![6, 256, 1024]⟩
abbrev S1024 : Shape := ⟨1, ![1024]⟩
abbrev S6 : Shape := ⟨1, ![6]⟩
abbrev S6x1024 : Shape := ⟨2, ![6, 1024]⟩
abbrev S4096x1024 : Shape := ⟨2, ![4096, 1024]⟩
abbrev S32x8 : Shape := ⟨2, ![32, 8]⟩
abbrev S1x1024 : Shape := ⟨2, ![1, 1024]⟩
abbrev S6x1x1024 : Shape := ⟨3, ![6, 1, 1024]⟩
abbrev S6x256x4096 : Shape := ⟨3, ![6, 256, 4096]⟩
abbrev S6x256x8 : Shape := ⟨3, ![6, 256, 8]⟩
abbrev S1x256x1024 : Shape := ⟨3, ![1, 256, 1024]⟩
abbrev S1x1x1024 : Shape := ⟨3, ![1, 1, 1024]⟩
abbrev S1x256x4096 : Shape := ⟨3, ![1, 256, 4096]⟩
abbrev S1x256x8 : Shape := ⟨3, ![1, 256, 8]⟩
abbrev S256x1024 : Shape := ⟨2, ![256, 1024]⟩
abbrev S1x1 : Shape := ⟨2, ![1, 1]⟩
abbrev S128x128 : Shape := ⟨2, ![128, 128]⟩
abbrev S256 : Shape := ⟨1, ![256]⟩
abbrev S256x1 : Shape := ⟨2, ![256, 1]⟩
abbrev S1 : Shape := ⟨1, ![1]⟩
abbrev S256x128 : Shape := ⟨2, ![256, 128]⟩
abbrev S1x256x128 : Shape := ⟨3, ![1, 256, 128]⟩
abbrev S1x256x1 : Shape := ⟨3, ![1, 256, 1]⟩
abbrev S256x4096 : Shape := ⟨2, ![256, 4096]⟩

abbrev nBuf : Space → Nat
  | .hbm => 15
  | .vmem => 17
  | .smem => 2
  | _ => 0

abbrev bufTy : (tb : Table) → Fin (tcTables nBuf tb) → BufTy
  | .hbm, ⟨0, _⟩ => ⟨S6x256x1024, .bf16⟩
  | .hbm, ⟨1, _⟩ => ⟨S1024, .f32⟩
  | .hbm, ⟨2, _⟩ => ⟨S1024, .f32⟩
  | .hbm, ⟨3, _⟩ => ⟨S6, .i32⟩
  | .hbm, ⟨4, _⟩ => ⟨S6x1024, .f32⟩
  | .hbm, ⟨5, _⟩ => ⟨S4096x1024, .fp8e4m3⟩
  | .hbm, ⟨6, _⟩ => ⟨S32x8, .f32⟩
  | .hbm, ⟨7, _⟩ => ⟨S1x1024, .f32⟩
  | .hbm, ⟨8, _⟩ => ⟨S1x1024, .f32⟩
  | .hbm, ⟨9, _⟩ => ⟨S6x1x1024, .f32⟩
  | .hbm, ⟨10, _⟩ => ⟨S6x256x4096, .bf16⟩
  | .hbm, ⟨11, _⟩ => ⟨S1x1024, .f32⟩
  | .hbm, ⟨12, _⟩ => ⟨S1x1024, .f32⟩
  | .hbm, ⟨13, _⟩ => ⟨S6x256x1024, .fp8e5m2⟩
  | .hbm, ⟨14, _⟩ => ⟨S6x256x8, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S4096x1024, .fp8e4m3⟩
  | .local _ .vmem, ⟨7, _⟩ => ⟨S1x256x4096, .bf16⟩
  | .local _ .vmem, ⟨8, _⟩ => ⟨S1x256x4096, .bf16⟩
  | .local _ .vmem, ⟨9, _⟩ => ⟨S1x1024, .f32⟩
  | .local _ .vmem, ⟨10, _⟩ => ⟨S1x1024, .f32⟩
  | .local _ .vmem, ⟨11, _⟩ => ⟨S1x256x1024, .fp8e5m2⟩
  | .local _ .vmem, ⟨12, _⟩ => ⟨S1x256x1024, .fp8e5m2⟩
  | .local _ .vmem, ⟨13, _⟩ => ⟨S1x256x8, .f32⟩
  | .local _ .vmem, ⟨14, _⟩ => ⟨S1x256x8, .f32⟩
  | .local _ .vmem, ⟨15, _⟩ => ⟨S4096x1024, .bf16⟩
  | .local _ .vmem, ⟨16, _⟩ => ⟨S256x1024, .bf16⟩
  | .local _ .smem, ⟨0, _⟩ => ⟨S6, .i32⟩
  | .local _ .smem, ⟨1, _⟩ => ⟨S32x8, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_362 : BitVec 32 := 0#32
  let c32_i32_363 : BitVec 32 := 32#32
  let v1024 : BitVec 32 := Scalar.addi c0_i32_362 c32_i32_363
  let c1_i32_364 : BitVec 32 := 1#32
  ⟨c0_i32_362, v1024, c1_i32_364⟩
def k0_off1 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let v1028 : Index := Scalar.indexCast v1026
  let c0_369 : Index := 0#32
  ![v1028.toNat, 0]
def k0_off2 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let c128_i32_368 : BitVec 32 := 128#32
  let v1027 : BitVec 32 := Scalar.muli v1026 c128_i32_368
  let v1032 : Index := Scalar.indexCast v1027
  let c0_370 : Index := 0#32
  ![v1032.toNat, 0]
def k0_off3 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let v1040 : Index := Scalar.indexCast v1026
  let c1_372 : Index := 1#32
  ![v1040.toNat, 1]
def k0_off4 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let c128_i32_368 : BitVec 32 := 128#32
  let v1027 : BitVec 32 := Scalar.muli v1026 c128_i32_368
  let v1044 : Index := Scalar.indexCast v1027
  let c128_373 : Index := 128#32
  ![v1044.toNat, 128]
def k0_off5 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let v1052 : Index := Scalar.indexCast v1026
  let c2_375 : Index := 2#32
  ![v1052.toNat, 2]
def k0_off6 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let c128_i32_368 : BitVec 32 := 128#32
  let v1027 : BitVec 32 := Scalar.muli v1026 c128_i32_368
  let v1056 : Index := Scalar.indexCast v1027
  let c256_376 : Index := 256#32
  ![v1056.toNat, 256]
def k0_off7 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let v1064 : Index := Scalar.indexCast v1026
  let c3_378 : Index := 3#32
  ![v1064.toNat, 3]
def k0_off8 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let c128_i32_368 : BitVec 32 := 128#32
  let v1027 : BitVec 32 := Scalar.muli v1026 c128_i32_368
  let v1068 : Index := Scalar.indexCast v1027
  let c384_379 : Index := 384#32
  ![v1068.toNat, 384]
def k0_off9 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let v1076 : Index := Scalar.indexCast v1026
  let c4_381 : Index := 4#32
  ![v1076.toNat, 4]
def k0_off10 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let c128_i32_368 : BitVec 32 := 128#32
  let v1027 : BitVec 32 := Scalar.muli v1026 c128_i32_368
  let v1080 : Index := Scalar.indexCast v1027
  let c512_382 : Index := 512#32
  ![v1080.toNat, 512]
def k0_off11 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let v1088 : Index := Scalar.indexCast v1026
  let c5_384 : Index := 5#32
  ![v1088.toNat, 5]
def k0_off12 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let c128_i32_368 : BitVec 32 := 128#32
  let v1027 : BitVec 32 := Scalar.muli v1026 c128_i32_368
  let v1092 : Index := Scalar.indexCast v1027
  let c640_385 : Index := 640#32
  ![v1092.toNat, 640]
def k0_off13 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let v1100 : Index := Scalar.indexCast v1026
  let c6_387 : Index := 6#32
  ![v1100.toNat, 6]
def k0_off14 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let c128_i32_368 : BitVec 32 := 128#32
  let v1027 : BitVec 32 := Scalar.muli v1026 c128_i32_368
  let v1104 : Index := Scalar.indexCast v1027
  let c768_388 : Index := 768#32
  ![v1104.toNat, 768]
def k0_off15 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let v1112 : Index := Scalar.indexCast v1026
  let c7_390 : Index := 7#32
  ![v1112.toNat, 7]
def k0_off16 (k0_t1 : Fin k0_t1_loop.trips) : Fin 2 → Nat :=
  let c0_i32_367 : BitVec 32 := 0#32
  let c0_i32_362 : BitVec 32 := 0#32
  let c1_i32_364 : BitVec 32 := 1#32
  let arg15 : BitVec 32 := Scf.iv c0_i32_362 c1_i32_364 k0_t1
  let c1_i32_366 : BitVec 32 := 1#32
  let v1025 : BitVec 32 := Scalar.muli arg15 c1_i32_366
  let v1026 : BitVec 32 := Scalar.addi c0_i32_367 v1025
  let c128_i32_368 : BitVec 32 := 128#32
  let v1027 : BitVec 32 := Scalar.muli v1026 c128_i32_368
  let v1116 : Index := Scalar.indexCast v1027
  let c896_391 : Index := 896#32
  ![v1116.toNat, 896]
def k0_off17 (i : grid0.Coords) : Fin 1 → Nat :=
  let arg0 : BitVec 32 := BitVec.ofNat 32 (i 0).val
  let v22 : Index := Scalar.indexCast arg0
  ![v22.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x1024 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S6x256x1024 : Shape := ⟨3, ![6, 256, 1024]⟩
abbrev S1024 : Shape := ⟨1, ![1024]⟩
abbrev S6 : Shape := ⟨1, ![6]⟩
abbrev S6x1024 : Shape := ⟨2, ![6, 1024]⟩
abbrev S4096x1024 : Shape := ⟨2, ![4096, 1024]⟩
abbrev S32x8 : Shape := ⟨2, ![32, 8]⟩
abbrev S_ : Shape := ⟨0, ![]⟩
abbrev S6x256 : Shape := ⟨2, ![6, 256]⟩
abbrev S6x256x1 : Shape := ⟨3, ![6, 256, 1]⟩
abbrev S1x1x1024 : Shape := ⟨3, ![1, 1, 1024]⟩
abbrev S256 : Shape := ⟨1, ![256]⟩
abbrev S1x256 : Shape := ⟨2, ![1, 256]⟩
abbrev S6x1 : Shape := ⟨2, ![6, 1]⟩
abbrev S6x1x1024 : Shape := ⟨3, ![6, 1, 1024]⟩
abbrev S1x1024 : Shape := ⟨2, ![1, 1024]⟩
abbrev S6x256x8x128 : Shape := ⟨4, ![6, 256, 8, 128]⟩
abbrev S6x256x8 : Shape := ⟨3, ![6, 256, 8]⟩
abbrev S253 : Shape := ⟨1, ![253]⟩
abbrev S6x256x8x1 : Shape := ⟨4, ![6, 256, 8, 1]⟩
abbrev S1x1x1x253 : Shape := ⟨4, ![1, 1, 1, 253]⟩
abbrev S6x256x8x253 : Shape := ⟨4, ![6, 256, 8, 253]⟩
abbrev S6x256x4096 : Shape := ⟨3, ![6, 256, 4096]⟩
abbrev S1536x1024 : Shape := ⟨2, ![1536, 1024]⟩
abbrev S32x128x8x128 : Shape := ⟨4, ![32, 128, 8, 128]⟩
abbrev S32x1x8x1 : Shape := ⟨4, ![32, 1, 8, 1]⟩
abbrev S1536x4096 : Shape := ⟨2, ![1536, 4096]⟩

abbrev nBuf : Space → Nat
  | .hbm => 154
  | .vmem => 6
  | .smem => 0
  | _ => 0

abbrev hbmTy0_0 (i : Nat) : BufTy := match i % 128 with
  | 0 => ⟨S6x256x1024, .bf16⟩
  | 1 => ⟨S1024, .f32⟩
  | 2 => ⟨S1024, .f32⟩
  | 3 => ⟨S6, .i32⟩
  | 4 => ⟨S6x1024, .f32⟩
  | 5 => ⟨S4096x1024, .fp8e4m3⟩
  | 6 => ⟨S32x8, .f32⟩
  | 7 => ⟨S6x256x1024, .f32⟩
  | 8 => ⟨S_, .f32⟩
  | 9 => ⟨S6x256, .f32⟩
  | 10 => ⟨S6x256x1, .f32⟩
  | 11 => ⟨S_, .f32⟩
  | 12 => ⟨S6x256x1, .f32⟩
  | 13 => ⟨S6x256x1, .f32⟩
  | 14 => ⟨S6x256x1024, .f32⟩
  | 15 => ⟨S6x256x1024, .f32⟩
  | 16 => ⟨S6x256x1024, .f32⟩
  | 17 => ⟨S_, .f32⟩
  | 18 => ⟨S6x256, .f32⟩
  | 19 => ⟨S6x256x1, .f32⟩
  | 20 => ⟨S_, .f32⟩
  | 21 => ⟨S6x256x1, .f32⟩
  | 22 => ⟨S6x256x1, .f32⟩
  | 23 => ⟨S_, .f32⟩
  | 24 => ⟨S6x256x1, .f32⟩
  | 25 => ⟨S6x256x1, .f32⟩
  | 26 => ⟨S6x256x1, .f32⟩
  | 27 => ⟨S6x256x1024, .f32⟩
  | 28 => ⟨S6x256x1024, .f32⟩
  | 29 => ⟨S1x1x1024, .f32⟩
  | 30 => ⟨S6x256x1024, .f32⟩
  | 31 => ⟨S6x256x1024, .f32⟩
  | 32 => ⟨S1x1x1024, .f32⟩
  | 33 => ⟨S6x256x1024, .f32⟩
  | 34 => ⟨S6x256x1024, .f32⟩
  | 35 => ⟨S256, .i32⟩
  | 36 => ⟨S1x256, .i32⟩
  | 37 => ⟨S6x1, .i32⟩
  | 38 => ⟨S6x256, .i32⟩
  | 39 => ⟨S6x256, .i32⟩
  | 40 => ⟨S6x256, .i1⟩
  | 41 => ⟨S6x256, .f32⟩
  | 42 => ⟨S6, .f32⟩
  | 43 => ⟨S6x1, .f32⟩
  | 44 => ⟨S6x256x1, .f32⟩
  | 45 => ⟨S6x256x1024, .f32⟩
  | 46 => ⟨S6x256x1024, .f32⟩
  | 47 => ⟨S_, .f32⟩
  | 48 => ⟨S6x1024, .f32⟩
  | 49 => ⟨S6x1024, .f32⟩
  | 50 => ⟨S6x1024, .f32⟩
  | 51 => ⟨S6x1024, .f32⟩
  | 52 => ⟨S_, .f32⟩
  | 53 => ⟨S6, .f32⟩
  | 54 => ⟨S6x1, .f32⟩
  | 55 => ⟨S6x1, .f32⟩
  | 56 => ⟨S6x1024, .f32⟩
  | 57 => ⟨S6x1024, .f32⟩
  | 58 => ⟨S6x1024, .f32⟩
  | 59 => ⟨S_, .f32⟩
  | 60 => ⟨S6, .f32⟩
  | 61 => ⟨S6x1, .f32⟩
  | 62 => ⟨S6x1024, .f32⟩
  | 63 => ⟨S6x1024, .f32⟩
  | 64 => ⟨S6x1024, .f32⟩
  | 65 => ⟨S6x1024, .f32⟩
  | 66 => ⟨S6x1024, .f32⟩
  | 67 => ⟨S6x256x1, .f32⟩
  | 68 => ⟨S6x1024, .f32⟩
  | 69 => ⟨S6x1024, .f32⟩
  | 70 => ⟨S6x1x1024, .f32⟩
  | 71 => ⟨S6x256x1024, .f32⟩
  | 72 => ⟨S6x256x1024, .f32⟩
  | 73 => ⟨S6x256x1024, .f32⟩
  | 74 => ⟨S6x256x1024, .f32⟩
  | 75 => ⟨S_, .f32⟩
  | 76 => ⟨S1024, .f32⟩
  | 77 => ⟨S_, .f32⟩
  | 78 => ⟨S1024, .f32⟩
  | 79 => ⟨S1x1x1024, .f32⟩
  | 80 => ⟨S6x256x1024, .f32⟩
  | 81 => ⟨S6x256x1024, .f32⟩
  | 82 => ⟨S_, .f32⟩
  | 83 => ⟨S6x256, .f32⟩
  | 84 => ⟨S6x256x1, .f32⟩
  | 85 => ⟨S_, .f32⟩
  | 86 => ⟨S6x256x1, .f32⟩
  | 87 => ⟨S6x256x1, .f32⟩
  | 88 => ⟨S6x256x1024, .f32⟩
  | 89 => ⟨S6x256x1024, .f32⟩
  | 90 => ⟨S6x256x1024, .f32⟩
  | 91 => ⟨S_, .f32⟩
  | 92 => ⟨S6x256, .f32⟩
  | 93 => ⟨S6x256x1, .f32⟩
  | 94 => ⟨S_, .f32⟩
  | 95 => ⟨S6x256x1, .f32⟩
  | 96 => ⟨S6x256x1, .f32⟩
  | 97 => ⟨S6x256x1024, .f32⟩
  | 98 => ⟨S6x256x1024, .f32⟩
  | 99 => ⟨S6x256x1024, .f32⟩
  | 100 => ⟨S6x256x1024, .f32⟩
  | 101 => ⟨S6x256x1024, .f32⟩
  | 102 => ⟨S1x1024, .f32⟩
  | 103 => ⟨S1x1024, .f32⟩
  | 104 => ⟨S6x256x8x128, .f32⟩
  | 105 => ⟨S6x256x8x128, .f32⟩
  | 106 => ⟨S_, .f32⟩
  | 107 => ⟨S6x256x8, .f32⟩
  | 108 => ⟨S_, .f32⟩
  | 109 => ⟨S6x256x8, .f32⟩
  | 110 => ⟨S6x256x8, .f32⟩
  | 111 => ⟨S_, .f32⟩
  | 112 => ⟨S253, .f32⟩
  | 113 => ⟨S253, .f32⟩
  | 114 => ⟨S_, .f32⟩
  | 115 => ⟨S253, .f32⟩
  | 116 => ⟨S253, .f32⟩
  | 117 => ⟨S253, .f32⟩
  | 118 => ⟨S6x256x8x1, .f32⟩
  | 119 => ⟨S1x1x1x253, .f32⟩
  | 120 => ⟨S6x256x8x253, .f32⟩
  | 121 => ⟨S6x256x8x253, .f32⟩
  | 122 => ⟨S6x256x8x253, .i1⟩
  | 123 => ⟨S_, .f32⟩
  | 124 => ⟨S_, .f32⟩
  | 125 => ⟨S6x256x8x253, .f32⟩
  | 126 => ⟨S6x256x8x253, .f32⟩
  | 127 => ⟨S6x256x8x253, .f32⟩
  | _ => ⟨S6x256x1024, .bf16⟩

abbrev hbmTy0_1 (i : Nat) : BufTy := match i % 128 with
  | 0 => ⟨S_, .f32⟩
  | 1 => ⟨S6x256x8, .f32⟩
  | 2 => ⟨S_, .f32⟩
  | 3 => ⟨S6x256x8, .f32⟩
  | 4 => ⟨S6x256x8, .i1⟩
  | 5 => ⟨S_, .f32⟩
  | 6 => ⟨S_, .f32⟩
  | 7 => ⟨S6x256x8, .f32⟩
  | 8 => ⟨S6x256x8, .f32⟩
  | 9 => ⟨S_, .f32⟩
  | 10 => ⟨S6x256x8, .f32⟩
  | 11 => ⟨S6x256x8, .f32⟩
  | 12 => ⟨S6x256x8x1, .f32⟩
  | 13 => ⟨S6x256x8x128, .f32⟩
  | 14 => ⟨S6x256x8x128, .f32⟩
  | 15 => ⟨S_, .f32⟩
  | 16 => ⟨S_, .f32⟩
  | 17 => ⟨S_, .f32⟩
  | 18 => ⟨S6x256x8x128, .f32⟩
  | 19 => ⟨S6x256x8x128, .f32⟩
  | 20 => ⟨S_, .f32⟩
  | 21 => ⟨S6x256x8x128, .f32⟩
  | 22 => ⟨S6x256x8x128, .f32⟩
  | 23 => ⟨S6x256x1024, .f32⟩
  | 24 => ⟨S6x256x4096, .bf16⟩
  | 25 => ⟨S6x256x1024, .fp8e5m2⟩
  | _ => ⟨S6x256x1024, .bf16⟩

abbrev hbmTy (i : Nat) : BufTy := match i / 128 with
  | 0 => hbmTy0_0 i
  | 1 => hbmTy0_1 i
  | _ => ⟨S6x256x1024, .bf16⟩

abbrev bufTy : (tb : Table) → Fin (tcTables nBuf tb) → BufTy
  | .hbm, ⟨i, _⟩ => hbmTy i
  | .local _ .vmem, ⟨0, _⟩ => ⟨S6x256x1024, .f32⟩
  | .local _ .vmem, ⟨1, _⟩ => ⟨S6x256x8, .f32⟩
  | .local _ .vmem, ⟨2, _⟩ => ⟨S4096x1024, .fp8e4m3⟩
  | .local _ .vmem, ⟨3, _⟩ => ⟨S32x8, .f32⟩
  | .local _ .vmem, ⟨4, _⟩ => ⟨S6x256x4096, .bf16⟩
  | .local _ .vmem, ⟨5, _⟩ => ⟨S6x256x1024, .fp8e5m2⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_9 : Ref sig .tc := ⟨.hbm, 82, rfl⟩
abbrev main_v65 : Ref sig .tc := ⟨.hbm, 83, rfl⟩
abbrev main_v66 : Ref sig .tc := ⟨.hbm, 84, rfl⟩
abbrev main_cst_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_13 : Ref sig .tc := ⟨.hbm, 106, rfl⟩
abbrev main_v85 : Ref sig .tc := ⟨.hbm, 107, rfl⟩
abbrev main_cst_14 : Ref sig .tc := ⟨.hbm, 108, rfl⟩
abbrev main_v86 : Ref sig .tc := ⟨.hbm, 109, rfl⟩
abbrev main_v87 : Ref sig .tc := ⟨.hbm, 110, rfl⟩
abbrev main_cst_15 : Ref sig .tc := ⟨.hbm, 111, rfl⟩
abbrev main_v88 : Ref sig .tc := ⟨.hbm, 112, rfl⟩
abbrev main_v89 : Ref sig .tc := ⟨.hbm, 113, rfl⟩
abbrev main_cst_16 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_17 : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_v98 : Ref sig .tc := ⟨.hbm, 127, rfl⟩
abbrev main_cst_18 : Ref sig .tc := ⟨.hbm, 128, rfl⟩
abbrev main_v99 : Ref sig .tc := ⟨.hbm, 129, rfl⟩
abbrev main_cst_19 : Ref sig .tc := ⟨.hbm, 130, rfl⟩
abbrev main_v100 : Ref sig .tc := ⟨.hbm, 131, rfl⟩
abbrev main_v101 : Ref sig .tc := ⟨.hbm, 132, rfl⟩
abbrev main_cst_20 : Ref sig .tc := ⟨.hbm, 133, rfl⟩
abbrev main_call1_v0 : Ref sig .tc := ⟨.hbm, 134, rfl⟩
abbrev main_call1_v1 : Ref sig .tc := ⟨.hbm, 135, rfl⟩
abbrev main_v102 : Ref sig .tc := ⟨.hbm, 136, rfl⟩
abbrev main_cst_21 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_22 : Ref sig .tc := ⟨.hbm, 143, rfl⟩
abbrev main_cst_23 : Ref sig .tc := ⟨.hbm, 144, rfl⟩
abbrev main_call2_v0 : Ref sig .tc := ⟨.hbm, 145, rfl⟩
abbrev main_call2_v1 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_v108 : Ref sig .tc := ⟨.hbm, 150, rfl⟩
abbrev main_v109 : Ref sig .tc := ⟨.hbm, 151, rfl⟩
abbrev main_v110_0 : Ref sig .tc := ⟨.hbm, 152, rfl⟩
abbrev main_v110_1 : Ref sig .tc := ⟨.hbm, 153, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x1024 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Math.lean ====
module

public import Idealize.ShloMosaic.Lib.Pointwise

@[expose] public section

noncomputable section

namespace Cert.Hand

open Idealize.ShloMosaic

/-! ## The layer norm's backward pass on extended reals, one sequence at a time -/

/-- The features' count, as the float constant both programs divide by. -/
def nf : EReal := Ideal.ofBits .f32 0x44800000#32

/-- The variance's offset. -/
def eps : EReal := Ideal.ofBits .f32 0x3727C5AC#32

variable (X : Fin 256 → Fin 1024 → EReal) (G B E : Fin 1024 → EReal) (L : BitVec 32)

/-- A row minus its mean. -/
def xc (s : Fin 256) (d : Fin 1024) : EReal := X s d - Ideal.div (∑ k, X s k) nf

/-- The reciprocal deviation of a row. -/
def rstd (s : Fin 256) : EReal := Ideal.rsqrt (Ideal.div (∑ k, xc X s k * xc X s k) nf + eps)

/-- The normalised entry. -/
def xhat (s : Fin 256) (d : Fin 1024) : EReal := xc X s d * rstd X s

/-- One within the sequence, zero past its end. -/
def mask (s : Fin 256) : EReal := if (s.val : ℤ) < L.toInt then 1 else 0

/-- The sequence length as a number. -/
def lenf : EReal := ((L.toInt : ℝ) : EReal)

/-- The Euclidean norm of a vector. -/
def nrm (P : Fin 1024 → EReal) : EReal := Ideal.sqrt (∑ k, P k * P k)

/-- The gradient of the pooled vector `P` over the length: back through the normalisation, then divided. -/
def dpl (P : Fin 1024 → EReal) (d : Fin 1024) : EReal :=
  Ideal.div (Ideal.div (E d - Ideal.div (P d) (nrm P) * ∑ k, Ideal.div (P k) (nrm P) * E k) (nrm P)) (lenf L)

/-- The kernel's sum over a sequence. -/
def sx (d : Fin 1024) : EReal := ∑ s, xhat X s d * mask L s

/-- The number of rows within the sequence, as the kernel takes it. -/
def cnt : EReal := (((IntOp.minsi L 256#32).toInt : ℝ) : EReal)

/-- The pooled vector as the kernel computes it. -/
def poolK (d : Fin 1024) : EReal := Ideal.div (G d * sx X L d + B d * cnt L) (lenf L)

/-- The pooled vector as the reference computes it. -/
def poolR (d : Fin 1024) : EReal := Ideal.div (∑ s, mask L s * (xhat X s d * G d + B d)) (lenf L)

/-- The kernel's gradient before its row factor, of the pooled vector's gradient `D`. -/
def vK (D : Fin 1024 → EReal) (s : Fin 256) (d : Fin 1024) : EReal :=
  (D d * G d - Ideal.div (∑ k, D k * G k) nf) - xhat X s d * Ideal.div (∑ k, xhat X s k * (D k * G k)) nf

/-- The kernel's row factor. -/
def row (s : Fin 256) : EReal := rstd X s * mask L s

/-- The reference's gradient of the layer norm's input. -/
def dhR (D : Fin 1024 → EReal) (s : Fin 256) (d : Fin 1024) : EReal :=
  rstd X s * ((mask L s * D d * G d - Ideal.div (∑ k, mask L s * D k * G k) nf)
    - xhat X s d * Ideal.div (∑ k, mask L s * D k * G k * xhat X s k) nf)

end Cert.Hand
-- ==== Proof.Real.lean ====
module

public import proofs.«01_k».proof.Proof.Math

@[expose] public section

noncomputable section

namespace Cert.Hand

open Idealize.ShloMosaic

/-! ## The same formulas over the reals -/

/-- A finite sum of reals, embedded. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals with nonzero divisor. -/
theorem div_real (x y : ℝ) (h : y ≠ 0) : Ideal.div (x : EReal) (y : EReal) = ((x / y : ℝ) : EReal) := by
  rw [Ideal.div_coe h, ← EReal.coe_mul]
  congr 1
  ring

/-- The number of features. -/
theorem nf_real : nf = ((1024 : ℝ) : EReal) := by
  unfold nf
  simp [Ideal.ofBits, Ideal.ieee, -EReal.coe_mul]; norm_num

/-- The variance's offset is a positive real. -/
theorem eps_real : ∃ r : ℝ, eps = (r : EReal) ∧ 0 < r := by
  unfold eps
  refine ⟨(2 ^ 23 + 2606508) / 2 ^ 40, ?_, by norm_num⟩
  simp [Ideal.ofBits, Ideal.ieee, -EReal.coe_mul]; norm_num

/-- A square is not negative. -/
theorem sq_nonneg (a : EReal) : 0 ≤ a * a := by
  induction a using EReal.rec with
  | bot => simp
  | coe r => rw [← EReal.coe_mul]; exact EReal.coe_nonneg.2 (mul_self_nonneg r)
  | top => simp

/-- What is not real is infinite. -/
theorem inf_of_not_real (a : EReal) (h : ¬∃ r : ℝ, a = (r : EReal)) : a = ⊤ ∨ a = ⊥ := by
  induction a using EReal.rec with
  | bot => exact Or.inr rfl
  | coe r => exact absurd ⟨r, rfl⟩ h
  | top => exact Or.inl rfl

/-- A sum of nonnegative terms one of which is infinite. -/
theorem sum_top {n : ℕ} (f : Fin n → EReal) (h0 : ∀ k, 0 ≤ f k) (j : Fin n) (hj : f j = ⊤) : ∑ k, f k = ⊤ :=
  top_le_iff.1 (hj ▸ Finset.single_le_sum (fun k _ => h0 k) (Finset.mem_univ j))

/-- A sum one of whose terms is minus infinity. -/
theorem sum_bot {n : ℕ} (f : Fin n → EReal) (j : Fin n) (hj : f j = ⊥) : ∑ k, f k = ⊥ := by
  rw [← Finset.add_sum_erase _ _ (Finset.mem_univ j), hj, EReal.bot_add]

/-- A sum of squares one of which is of an infinite term. -/
theorem sum_sq_top {n : ℕ} (f : Fin n → EReal) (j : Fin n) (hj : f j = ⊤ ∨ f j = ⊥) : ∑ k, f k * f k = ⊤ :=
  sum_top _ (fun k => sq_nonneg (f k)) j (by rcases hj with h | h <;> rw [h] <;> simp)

/-- Division of infinity by a positive real. -/
theorem top_div (l : ℝ) (h : 0 < l) : Ideal.div ⊤ (l : EReal) = ⊤ := by
  rw [Ideal.div_coe h.ne', EReal.top_mul_coe_of_pos (by positivity)]

theorem bot_div (l : ℝ) (h : 0 < l) : Ideal.div ⊥ (l : EReal) = ⊥ := by
  rw [Ideal.div_coe h.ne', EReal.bot_mul_coe_of_pos (by positivity)]

/-- Division by infinity. -/
theorem div_top (x : EReal) : Ideal.div x ⊤ = 0 := by
  unfold Ideal.div
  rw [if_neg (by simp), EReal.inv_top, mul_zero]

/-- Zero over a nonzero real. -/
theorem zero_div_real (l : ℝ) (h : l ≠ 0) : Ideal.div 0 (l : EReal) = 0 := by rw [Ideal.div_coe h, zero_mul]

variable (X : Fin 256 → Fin 1024 → EReal) (g : Fin 1024 → ℝ) (B : Fin 1024 → EReal) (e : Fin 1024 → ℝ) (L : BitVec 32)

/-- Reals as extended reals, by rows and features. -/
abbrev up2 (f : Fin 256 → Fin 1024 → ℝ) : Fin 256 → Fin 1024 → EReal := fun s d => (f s d : EReal)

/-- Reals as extended reals, by feature. -/
abbrev up (f : Fin 1024 → ℝ) : Fin 1024 → EReal := fun d => (f d : EReal)

/-- A row of reals is normalised to reals; a row with an infinite entry has an infinite variance and is normalised to zeros. -/
theorem row_real (s : Fin 256) : ∃ (r : ℝ) (h : Fin 1024 → ℝ), rstd X s = (r : EReal) ∧ 0 ≤ r ∧ xhat X s = up h := by
  obtain ⟨ε, he, h0⟩ := eps_real
  by_cases hx : ∀ d, ∃ r : ℝ, X s d = (r : EReal)
  · choose x hx using hx
    have hc : ∀ d, xc X s d = ((x d - (∑ k, x k) / 1024 : ℝ) : EReal) := fun d => by
      unfold xc
      simp only [hx]
      rw [nf_real, ← coe_sum, div_real _ _ (by norm_num), ← EReal.coe_sub]
    have hs : 0 ≤ ∑ k, (x k - (∑ k, x k) / 1024) * (x k - (∑ k, x k) / 1024) := Finset.sum_nonneg fun k _ => mul_self_nonneg _
    have hr : rstd X s = (((Real.sqrt ((∑ k, (x k - (∑ k, x k) / 1024) * (x k - (∑ k, x k) / 1024)) / 1024 + ε))⁻¹ : ℝ) : EReal) := by
      have hp : 0 < (∑ k, (x k - (∑ k, x k) / 1024) * (x k - (∑ k, x k) / 1024)) / 1024 + ε := by positivity
      unfold rstd
      simp only [hc, ← EReal.coe_mul]
      rw [he, nf_real, ← coe_sum, div_real _ _ (by norm_num), ← EReal.coe_add, Ideal.rsqrt_coe, if_neg (by linarith), if_neg (by linarith)]
    refine ⟨_, fun d => (x d - (∑ k, x k) / 1024) * (Real.sqrt ((∑ k, (x k - (∑ k, x k) / 1024) * (x k - (∑ k, x k) / 1024)) / 1024 + ε))⁻¹, hr, by positivity, funext fun d => ?_⟩
    unfold xhat
    rw [hc, hr, up, ← EReal.coe_mul]
  · push Not at hx
    obtain ⟨j, hj⟩ := hx
    have hj' := inf_of_not_real (X s j) (fun ⟨r, h⟩ => hj r h)
    have hc : xc X s j = ⊤ ∨ xc X s j = ⊥ := by
      unfold xc
      generalize Ideal.div (∑ k, X s k) nf = y
      rcases hj' with h | h <;> rw [h]
      · induction y using EReal.rec with
        | bot => simp
        | coe r => exact Or.inl (EReal.top_sub_coe r)
        | top => simp
      · simp
    have hr : rstd X s = 0 := by
      unfold rstd
      rw [sum_sq_top _ j hc, nf_real, top_div _ (by norm_num), he, EReal.top_add_coe, Ideal.rsqrt_top]
    refine ⟨0, fun _ => 0, hr, le_refl _, funext fun d => ?_⟩
    unfold xhat
    rw [hr, mul_zero]
    rfl

/-- The normalised rows are real, and the reciprocal deviations nonnegative reals, whatever the activations. -/
theorem norm_real : ∃ (r : Fin 256 → ℝ) (h : Fin 256 → Fin 1024 → ℝ), (∀ s, rstd X s = (r s : EReal)) ∧ (∀ s, 0 ≤ r s) ∧ xhat X = up2 h := by
  choose r h h1 h2 h3 using row_real X
  exact ⟨r, h, h1, h2, funext h3⟩

/-- The mask as a real. -/
def maskR (L : BitVec 32) (s : Fin 256) : ℝ := if (s.val : ℤ) < L.toInt then 1 else 0

/-- The mask is the real one. -/
theorem mask_real (s : Fin 256) : mask L s = (maskR L s : EReal) := by
  unfold mask maskR
  split <;> simp

/-- The number of rows of a non-empty sequence as the kernel takes it is the sum of the mask. -/
theorem cnt_real (hL : 1 ≤ L.toInt) : cnt L = ((∑ s, maskR L s : ℝ) : EReal) := by
  have h1 : ∑ s, maskR L s = ((min L.toInt.toNat 256 : ℕ) : ℝ) := by
    unfold maskR
    rw [Fin.sum_univ_eq_sum_range (fun i => if (i : ℤ) < L.toInt then (1 : ℝ) else 0) 256, Finset.sum_boole]
    congr 1
    have : (Finset.range 256).filter (fun i : ℕ => (i : ℤ) < L.toInt) = Finset.range (min L.toInt.toNat 256) := by
      ext i
      simp only [Finset.mem_filter, Finset.mem_range]
      omega
    rw [this, Finset.card_range]
  have h2 : (IntOp.minsi L 256#32).toInt = ((min L.toInt.toNat 256 : ℕ) : ℤ) := by
    have h256 : (256#32 : BitVec 32).toInt = 256 := by decide
    unfold IntOp.minsi
    by_cases h : L.toInt < 256
    · rw [if_pos (by rw [BitVec.slt_eq_decide, h256]; simpa using h)]
      omega
    · rw [if_neg (by rw [BitVec.slt_eq_decide, h256]; simpa using h), h256]
      omega
  unfold cnt
  rw [h1, h2]
  norm_cast

/-- A non-empty sequence's length is a positive real. -/
theorem lenf_real (hL : 1 ≤ L.toInt) : ∃ l : ℝ, lenf L = (l : EReal) ∧ 0 < l :=
  ⟨(L.toInt : ℝ), rfl, by have : (1 : ℝ) ≤ (L.toInt : ℝ) := by exact_mod_cast hL
                          linarith⟩

/-- The first row of a non-empty sequence is within it. -/
theorem mask_zero (hL : 1 ≤ L.toInt) : maskR L 0 = 1 := by
  unfold maskR
  exact if_pos (by show (0 : ℤ) < _; omega)

/-- The mask is not negative. -/
theorem mask_nonneg (s : Fin 256) : 0 ≤ maskR L s := by
  unfold maskR
  split <;> norm_num

/-- The kernel's sum over a sequence. -/
theorem sx_real (h : Fin 256 → Fin 1024 → ℝ) (hh : xhat X = up2 h) (d : Fin 1024) :
    sx X L d = ((∑ s, h s d * maskR L s : ℝ) : EReal) := by
  unfold sx
  rw [hh, coe_sum]
  exact Finset.sum_congr rfl fun s _ => by rw [mask_real, up2, ← EReal.coe_mul]

/-- THE POOLED VECTOR: both programs compute the same. An infinite offset makes the entry infinite in both. -/
theorem pool_eq (hL : 1 ≤ L.toInt) : poolK X (up g) B L = poolR X (up g) B L := by
  obtain ⟨_, h, _, _, hh⟩ := norm_real X
  obtain ⟨l, hl, l0⟩ := lenf_real L hL
  have m1 := mask_zero L hL
  have m0 := mask_nonneg L
  have hc : (0 : ℝ) < ∑ s, maskR L s :=
    lt_of_lt_of_le (by rw [m1]; norm_num : (0 : ℝ) < maskR L 0) (Finset.single_le_sum (fun s _ => m0 s) (Finset.mem_univ 0))
  funext d
  unfold poolK poolR
  rw [sx_real X L h hh, cnt_real L hL, hl, hh]
  congr 1
  simp only [up, up2, mask_real, ← EReal.coe_mul]
  have hm : ∀ s, maskR L s = 0 ∨ maskR L s = 1 := fun s => by
    unfold maskR
    split
    · exact Or.inr rfl
    · exact Or.inl rfl
  induction B d using EReal.rec with
  | bot =>
    rw [EReal.bot_mul_coe_of_pos hc, EReal.add_bot]
    refine (sum_bot _ 0 ?_).symm
    rw [EReal.add_bot, m1, EReal.coe_one, one_mul]
  | coe b =>
    simp only [← EReal.coe_add, ← EReal.coe_mul]
    rw [← coe_sum, Finset.mul_sum, Finset.mul_sum, ← Finset.sum_add_distrib]
    congr 1
    exact Finset.sum_congr rfl fun s _ => by ring
  | top =>
    rw [EReal.top_mul_coe_of_pos hc, EReal.coe_add_top]
    refine (sum_top _ (fun s => ?_) 0 ?_).symm
    · rw [EReal.coe_add_top]
      exact mul_nonneg (EReal.coe_nonneg.2 (m0 s)) le_top
    · rw [EReal.coe_add_top, m1, EReal.coe_one, one_mul]

/-- The gradient of the pooled vector over the length is real; it is zero when an entry of the vector is infinite. -/
theorem dpl_real (hL : 1 ≤ L.toInt) (P : Fin 1024 → EReal) (hn : 0 < nrm P) : ∃ D : Fin 1024 → ℝ, dpl (up e) L P = up D := by
  obtain ⟨l, hl, l0⟩ := lenf_real L hL
  by_cases hp : ∀ d, ∃ r : ℝ, P d = (r : EReal)
  · choose p hp using hp
    obtain rfl : P = up p := funext hp
    have hs : 0 ≤ ∑ k, p k * p k := Finset.sum_nonneg fun k _ => mul_self_nonneg _
    have hr : nrm (up p) = ((Real.sqrt (∑ k, p k * p k) : ℝ) : EReal) := by
      unfold nrm
      simp only [up, ← EReal.coe_mul]
      rw [← coe_sum, Ideal.sqrt_coe, if_neg (by linarith)]
    rw [hr] at hn
    have n0 : Real.sqrt (∑ k, p k * p k) ≠ 0 := (EReal.coe_pos.mp hn).ne'
    generalize Real.sqrt (∑ k, p k * p k) = n at hr n0
    refine ⟨fun d => (e d - p d / n * ∑ k, p k / n * e k) / n / l, funext fun d => ?_⟩
    unfold dpl
    rw [hr, hl]
    simp only [up, div_real _ _ n0, ← EReal.coe_mul]
    rw [← coe_sum, ← EReal.coe_mul, ← EReal.coe_sub, div_real _ _ n0, div_real _ _ l0.ne']
  · push Not at hp
    obtain ⟨j, hj⟩ := hp
    have hr : nrm P = ⊤ := by
      unfold nrm
      rw [sum_sq_top P j (inf_of_not_real _ fun ⟨r, h⟩ => hj r h), Ideal.sqrt_top]
    refine ⟨fun _ => 0, funext fun d => ?_⟩
    unfold dpl
    rw [hr, hl, div_top, zero_div_real _ l0.ne']
    rfl

variable (D : Fin 1024 → ℝ)

/-- The reference's gradient is the kernel's times the row factor; the row factor is a nonnegative real, the rest real. -/
theorem grad_eq : ∃ (r : Fin 256 → ℝ) (v : Fin 256 → Fin 1024 → ℝ), (∀ s, row X L s = (r s : EReal)) ∧ (∀ s, 0 ≤ r s)
    ∧ vK X (up g) (up D) = up2 v ∧ dhR X (up g) L (up D) = up2 fun s d => r s * v s d := by
  obtain ⟨ρ, h, hρ, ρ0, hh⟩ := norm_real X
  refine ⟨fun s => ρ s * maskR L s, fun s d => (D d * g d - (∑ k, D k * g k) / 1024) - h s d * ((∑ k, h s k * (D k * g k)) / 1024), fun s => ?_,
    fun s => mul_nonneg (ρ0 s) (mask_nonneg L s), funext fun s => funext fun d => ?_, funext fun s => funext fun d => ?_⟩
  · unfold row
    rw [hρ, mask_real, ← EReal.coe_mul]
  · unfold vK
    rw [hh, nf_real]
    simp only [up, up2, ← EReal.coe_mul]
    rw [← coe_sum, ← coe_sum, div_real _ _ (by norm_num), div_real _ _ (by norm_num), ← EReal.coe_mul, ← EReal.coe_sub, ← EReal.coe_sub]
  · unfold dhR
    rw [hh, nf_real, hρ]
    simp only [up, up2, mask_real, ← EReal.coe_mul]
    rw [← coe_sum, ← coe_sum, div_real _ _ (by norm_num), div_real _ _ (by norm_num), ← EReal.coe_mul, ← EReal.coe_sub, ← EReal.coe_sub, ← EReal.coe_mul]
    congr 1
    have a1 : ∑ k, maskR L s * D k * g k = maskR L s * ∑ k, D k * g k := by
      rw [Finset.mul_sum]; exact Finset.sum_congr rfl fun k _ => by ring
    have a2 : ∑ k, maskR L s * D k * g k * h s k = maskR L s * ∑ k, h s k * (D k * g k) := by
      rw [Finset.mul_sum]; exact Finset.sum_congr rfl fun k _ => by ring
    rw [a1, a2]
    ring

/-- A sequence's share of the gain's gradient. -/
theorem tg_eq (d : Fin 1024) : (D d : EReal) * sx X L d = ∑ s, mask L s * (D d : EReal) * xhat X s d := by
  obtain ⟨_, h, _, _, hh⟩ := norm_real X
  rw [sx_real X L h hh, hh]
  simp only [up2, mask_real, ← EReal.coe_mul]
  rw [← coe_sum, Finset.mul_sum]
  congr 1
  exact Finset.sum_congr rfl fun s _ => by ring

/-- A sequence's share of the offset's gradient. -/
theorem tb_eq (hL : 1 ≤ L.toInt) (d : Fin 1024) : (D d : EReal) * cnt L = ∑ s, mask L s * (D d : EReal) := by
  rw [cnt_real L hL]
  simp only [mask_real, ← EReal.coe_mul]
  rw [← coe_sum, Finset.mul_sum]
  congr 1
  exact Finset.sum_congr rfl fun s _ => by ring

/-! ## Empty sequences -/

/-- No row is within an empty sequence. -/
theorem mask_empty (hL : L.toInt ≤ 0) (s : Fin 256) : mask L s = 0 := by
  unfold mask
  exact if_neg (by omega)

/-- A negative length makes the pooled vector zero, and its norm. -/
theorem nrm_neg (G : Fin 1024 → EReal) (hL : L.toInt < 0) : nrm (poolR X G B L) = 0 := by
  have h0 : ∀ d, poolR X G B L d = 0 := fun d => by
    unfold poolR
    simp only [mask_empty L hL.le, zero_mul, Finset.sum_const_zero]
    exact zero_div_real _ (by have : (L.toInt : ℝ) < 0 := by exact_mod_cast hL
                              exact this.ne)
  unfold nrm
  simp only [h0, mul_zero, Finset.sum_const_zero]
  rw [← EReal.coe_zero, Ideal.sqrt_coe]
  simp

/-- The kernel counts no row of a sequence of length zero. -/
theorem cnt_empty (hL : L.toInt = 0) : cnt L = 0 := by
  obtain rfl : L = 0#32 := BitVec.eq_of_toInt_eq (by rw [hL]; rfl)
  unfold cnt
  rw [show (IntOp.minsi 0#32 256#32).toInt = 0 by decide]
  simp

/-- The kernel's sum over an empty sequence. -/
theorem sx_empty (hL : L.toInt ≤ 0) (d : Fin 1024) : sx X L d = 0 := by
  unfold sx
  simp only [mask_empty L hL, mul_zero, Finset.sum_const_zero]

/-- The row factors of an empty sequence. -/
theorem row_empty (hL : L.toInt ≤ 0) (s : Fin 256) : row X L s = 0 := by
  unfold row
  rw [mask_empty L hL, mul_zero]

/-- The reference's gradient over an empty sequence. -/
theorem dhR_empty (hL : L.toInt ≤ 0) (G Δ : Fin 1024 → EReal) (s : Fin 256) (d : Fin 1024) : dhR X G L Δ s d = 0 := by
  unfold dhR
  simp only [mask_empty L hL, zero_mul, Finset.sum_const_zero]
  rw [nf_real, zero_div_real _ (by norm_num), mul_zero, sub_zero, sub_zero, mul_zero]

end Cert.Hand
-- ==== Proof.Pieces.lean ====
module

public import proofs.«01_k».proof.Proof.Gen.KernelIdeal.Value
public import Idealize.ShloMosaic.Lib.ValueIdx
public import Idealize.ShloMosaic.Lib.IdealHost

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-! ## The quantiser over one block of 128 columns, as the body applies it eight times -/

/-- The columns `o`, …, `o + 127` of a `256 × 1024` array. -/
def blk (o : ℕ) (v : FVec F S256x1024 .f32) (h : S256x1024.Slices ![0, o] S256x128) : FVec F S256x128 .f32 :=
  extractStridedSlice S256x128 ![0, o] v h

/-- The scaled maximum of a block's rows: `row` times the largest magnitude, over the largest code. -/
def cV (row : FVec F S256x1 .f32) (vk : FVec F S256x128 .f32) : FVec F S256x1 .f32 :=
  mulf (mulf row (shapeCast S256x1 (multiReduction .maximumf [1] S256 (absf vk) 0xFF800000#32 reduces_S256x128_S256 (.inl rfl) rfl)
    shapeCasts_S256_S256x1)) (broadcast S256x1 (Scalar.ofBits .f32 0x37924925#32))

/-- One step of the search for the exponent field: keep `bit` when the power of two it gives does not exceed `c`. -/
def stepV (c : FVec F S256x1 .f32) (bit : BitVec 32) (b : IVec S256x1 32) : IVec S256x1 32 :=
  select (cmpf .oge c (bitcastToFloat .f32 (shli (addi b (broadcast S256x1 bit)) (broadcast S256x1 23#32))))
    (addi b (broadcast S256x1 bit)) b

/-- The exponent field found, bit by bit from the top. -/
def searchV (c : FVec F S256x1 .f32) : IVec S256x1 32 :=
  stepV c 1#32 (stepV c 2#32 (stepV c 4#32 (stepV c 8#32 (stepV c 16#32 (stepV c 32#32 (stepV c 64#32 (stepV c 128#32
    (broadcast S256x1 0#32))))))))

/-- The exponent field, with `126` for values below the normal numbers. -/
def expV (c : FVec F S256x1 .f32) : IVec S256x1 32 :=
  select (cmpi .eq (searchV c) (broadcast S256x1 0#32)) (broadcast S256x1 126#32) (searchV c)

/-- The block's scale: the power of two one above the exponent found. -/
def scaleV (c : FVec F S256x1 .f32) : FVec F S256x1 .f32 :=
  bitcastToFloat .f32 (shli (addi (expV c) (broadcast S256x1 1#32)) (broadcast S256x1 23#32))

/-- The reciprocal of the block's scale. -/
def invV (c : FVec F S256x1 .f32) : FVec F S256x1 .f32 :=
  bitcastToFloat .f32 (shli (subi (broadcast S256x1 253#32) (expV c)) (broadcast S256x1 23#32))

/-- The block's codes. -/
def codeV (row : FVec F S256x1 .f32) (vk : FVec F S256x128 .f32) : FVec F S256x128 .fp8e5m2 :=
  truncf .fp8e5m2 (minimumf (broadcast S256x128 (Scalar.ofBits .f32 0x47600000#32)) (maximumf (broadcast S256x128 (Scalar.ofBits .f32 0xC7600000#32))
    (mulf vk (broadcastTo S256x128 (mulf row (invV (cV row vk))) broadcasts_S256x1_S256x128)))) bitsLt_fp8e5m2_f32

/-- The block's dequantised gradient. -/
def dhwV (row : FVec F S256x1 .f32) (vk : FVec F S256x128 .f32) : FVec F S256x128 .bf16 :=
  mulf (extf .bf16 (codeV row vk) bitsLt_fp8e5m2_bf16)
    (broadcastTo S256x128 (truncf .bf16 (scaleV (cV row vk)) bitsLt_bf16_f32) broadcasts_S256x1_S256x128)

/-! ## What the body computes before the quantiser, of the sequence length and the blocks it loads -/

/-- The gradient of the pooled vector over the length: `dp / lenf`. -/
def dplV (len : Elt F .i32) (x2 : Vec F S1x256x1024 .bf16) (x3 x4 : Vec F S1x1024 .f32) (x5 : Vec F S1x1x1024 .f32) : FVec F S1x1024 .f32 :=
  k0_pay24 (k0_pay16 len) (k0_pay21 x2 len x3) (k0_pay22 x4) (k0_pay23 len) x5

/-- The gradient of the layer norm's input before its row factor. -/
def vV (len : Elt F .i32) (x2 : Vec F S1x256x1024 .bf16) (x3 x4 : Vec F S1x1024 .f32) (x5 : Vec F S1x1x1024 .f32) : FVec F S256x1024 .f32 :=
  k0_pay30 (k0_pay15 x2) (k0_pay28 (k0_pay16 len) (k0_pay19 x3) (k0_pay21 x2 len x3) (k0_pay22 x4) (k0_pay23 len) x5)
    (k0_pay29 (k0_pay15 x2) (k0_pay16 len) (k0_pay19 x3) (k0_pay21 x2 len x3) (k0_pay22 x4) (k0_pay23 len) x5)

/-- The row factor: the reciprocal deviation, zero past the sequence's end. -/
def rowV (len : Elt F .i32) (x2 : Vec F S1x256x1024 .bf16) : FVec F S256x1 .f32 := k0_pay31 (k0_pay14 x2) (k0_pay18 len)

/-- The pieces of the codes' block, last first. -/
def codeL (row : FVec F S256x1 .f32) (v : FVec F S256x1024 .f32) : List (View.Piece (Elt F) S1x256x1024 .fp8e5m2) :=
  [⟨Rect.unit ![0, 0, 896] S1x256x128.size inb_S1x256x1024_S1x256x128_0_0_896, shapeCast S1x256x128 (codeV row (blk 896 v slices_S256x1024_o0_896_S256x128)) shapeCasts_S256x128_S1x256x128⟩,
   ⟨Rect.unit ![0, 0, 768] S1x256x128.size inb_S1x256x1024_S1x256x128_0_0_768, shapeCast S1x256x128 (codeV row (blk 768 v slices_S256x1024_o0_768_S256x128)) shapeCasts_S256x128_S1x256x128⟩,
   ⟨Rect.unit ![0, 0, 640] S1x256x128.size inb_S1x256x1024_S1x256x128_0_0_640, shapeCast S1x256x128 (codeV row (blk 640 v slices_S256x1024_o0_640_S256x128)) shapeCasts_S256x128_S1x256x128⟩,
   ⟨Rect.unit ![0, 0, 512] S1x256x128.size inb_S1x256x1024_S1x256x128_0_0_512, shapeCast S1x256x128 (codeV row (blk 512 v slices_S256x1024_o0_512_S256x128)) shapeCasts_S256x128_S1x256x128⟩,
   ⟨Rect.unit ![0, 0, 384] S1x256x128.size inb_S1x256x1024_S1x256x128_0_0_384, shapeCast S1x256x128 (codeV row (blk 384 v slices_S256x1024_o0_384_S256x128)) shapeCasts_S256x128_S1x256x128⟩,
   ⟨Rect.unit ![0, 0, 256] S1x256x128.size inb_S1x256x1024_S1x256x128_0_0_256, shapeCast S1x256x128 (codeV row (blk 256 v slices_S256x1024_o0_256_S256x128)) shapeCasts_S256x128_S1x256x128⟩,
   ⟨Rect.unit ![0, 0, 128] S1x256x128.size inb_S1x256x1024_S1x256x128_0_0_128, shapeCast S1x256x128 (codeV row (blk 128 v slices_S256x1024_o0_128_S256x128)) shapeCasts_S256x128_S1x256x128⟩,
   ⟨Rect.unit ![0, 0, 0] S1x256x128.size inb_S1x256x1024_S1x256x128_0_0_0, shapeCast S1x256x128 (codeV row (blk 0 v slices_S256x1024_o0_0_S256x128)) shapeCasts_S256x128_S1x256x128⟩]

/-- The pieces of the scales' block, last first. -/
def scaleL (row : FVec F S256x1 .f32) (v : FVec F S256x1024 .f32) : List (View.Piece (Elt F) S1x256x8 .f32) :=
  [⟨Rect.unit ![0, 0, 7] S1x256x1.size inb_S1x256x8_S1x256x1_0_0_7, shapeCast S1x256x1 (scaleV (cV row (blk 896 v slices_S256x1024_o0_896_S256x128))) shapeCasts_S256x1_S1x256x1⟩,
   ⟨Rect.unit ![0, 0, 6] S1x256x1.size inb_S1x256x8_S1x256x1_0_0_6, shapeCast S1x256x1 (scaleV (cV row (blk 768 v slices_S256x1024_o0_768_S256x128))) shapeCasts_S256x1_S1x256x1⟩,
   ⟨Rect.unit ![0, 0, 5] S1x256x1.size inb_S1x256x8_S1x256x1_0_0_5, shapeCast S1x256x1 (scaleV (cV row (blk 640 v slices_S256x1024_o0_640_S256x128))) shapeCasts_S256x1_S1x256x1⟩,
   ⟨Rect.unit ![0, 0, 4] S1x256x1.size inb_S1x256x8_S1x256x1_0_0_4, shapeCast S1x256x1 (scaleV (cV row (blk 512 v slices_S256x1024_o0_512_S256x128))) shapeCasts_S256x1_S1x256x1⟩,
   ⟨Rect.unit ![0, 0, 3] S1x256x1.size inb_S1x256x8_S1x256x1_0_0_3, shapeCast S1x256x1 (scaleV (cV row (blk 384 v slices_S256x1024_o0_384_S256x128))) shapeCasts_S256x1_S1x256x1⟩,
   ⟨Rect.unit ![0, 0, 2] S1x256x1.size inb_S1x256x8_S1x256x1_0_0_2, shapeCast S1x256x1 (scaleV (cV row (blk 256 v slices_S256x1024_o0_256_S256x128))) shapeCasts_S256x1_S1x256x1⟩,
   ⟨Rect.unit ![0, 0, 1] S1x256x1.size inb_S1x256x8_S1x256x1_0_0_1, shapeCast S1x256x1 (scaleV (cV row (blk 128 v slices_S256x1024_o0_128_S256x128))) shapeCasts_S256x1_S1x256x1⟩,
   ⟨Rect.unit ![0, 0, 0] S1x256x1.size inb_S1x256x8_S1x256x1_0_0_0, shapeCast S1x256x1 (scaleV (cV row (blk 0 v slices_S256x1024_o0_0_S256x128))) shapeCasts_S256x1_S1x256x1⟩]

/-- The pieces of the dequantised gradient, last first. -/
def dhwL (row : FVec F S256x1 .f32) (v : FVec F S256x1024 .f32) : List (View.Piece (Elt F) S256x1024 .bf16) :=
  [⟨Rect.unit ![0, 896] S256x128.size inb_S256x1024_S256x128_0_896, shapeCast S256x128 (dhwV row (blk 896 v slices_S256x1024_o0_896_S256x128)) shapeCasts_S256x128_S256x128⟩,
   ⟨Rect.unit ![0, 768] S256x128.size inb_S256x1024_S256x128_0_768, shapeCast S256x128 (dhwV row (blk 768 v slices_S256x1024_o0_768_S256x128)) shapeCasts_S256x128_S256x128⟩,
   ⟨Rect.unit ![0, 640] S256x128.size inb_S256x1024_S256x128_0_640, shapeCast S256x128 (dhwV row (blk 640 v slices_S256x1024_o0_640_S256x128)) shapeCasts_S256x128_S256x128⟩,
   ⟨Rect.unit ![0, 512] S256x128.size inb_S256x1024_S256x128_0_512, shapeCast S256x128 (dhwV row (blk 512 v slices_S256x1024_o0_512_S256x128)) shapeCasts_S256x128_S256x128⟩,
   ⟨Rect.unit ![0, 384] S256x128.size inb_S256x1024_S256x128_0_384, shapeCast S256x128 (dhwV row (blk 384 v slices_S256x1024_o0_384_S256x128)) shapeCasts_S256x128_S256x128⟩,
   ⟨Rect.unit ![0, 256] S256x128.size inb_S256x1024_S256x128_0_256, shapeCast S256x128 (dhwV row (blk 256 v slices_S256x1024_o0_256_S256x128)) shapeCasts_S256x128_S256x128⟩,
   ⟨Rect.unit ![0, 128] S256x128.size inb_S256x1024_S256x128_0_128, shapeCast S256x128 (dhwV row (blk 128 v slices_S256x1024_o0_128_S256x128)) shapeCasts_S256x128_S256x128⟩,
   ⟨Rect.unit ![0, 0] S256x128.size inb_S256x1024_S256x128_0_0, shapeCast S256x128 (dhwV row (blk 0 v slices_S256x1024_o0_0_S256x128)) shapeCasts_S256x128_S256x128⟩]

variable (c : Dev nD) (i : grid0.Coords) (arg1 : Memref sig .tc .smem S6 .i32) (harg1 : arg1.IsWhole) (arg2 : Memref sig .tc .smem S32x8 .f32) (harg2 : arg2.IsWhole) (arg3 : Memref sig .tc .vmem S1x256x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S4096x1024 .fp8e4m3) (harg7 : arg7.IsWhole) (arg8 : Memref sig .tc .vmem S1x256x4096 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x1024 .fp8e5m2) (harg11 : arg11.IsWhole) (arg12 : Memref sig .tc .vmem S1x256x8 .f32) (harg12 : arg12.IsWhole) (arg13 : Memref sig .tc .vmem S4096x1024 .bf16) (harg13 : arg13.IsWhole) (arg14 : Memref sig .tc .vmem S256x1024 .bf16) (harg14 : arg14.IsWhole)
variable (x0 : Vec F S6 .i32) (x1 : Vec F S32x8 .f32) (x2 : Vec F S1x256x1024 .bf16) (x3 : Vec F S1x1024 .f32) (x4 : Vec F S1x1024 .f32) (x5 : Vec F S1x1x1024 .f32) (x6 : Vec F S4096x1024 .fp8e4m3) (xo8 : Vec F S1x1024 .f32) (xo9 : Vec F S1x1024 .f32) (xs0 : Vec F S4096x1024 .bf16)

/-- The length the body loads at a grid point. -/
def lenW : Elt F .i32 := View.readAt (Elt F) arg1.view (Rect.unit (s := S6) (k0_off17 i) S1.size (k0_off17_inb i)).toLoadRect (harg1.unread x0) (Shape.Idx.first (show 0 < S1.numel by rw [numel1_S1]; exact Nat.one_pos))

end Cert.KernelIdeal.Hand
-- ==== Proof.Outs.lean ====
module

public import proofs.«01_k».proof.Proof.Pieces
public import Idealize.ShloMosaic.Lib.Pointwise
public import Idealize.ShloMosaic.Lib.Pipeline.ValueKit.Tiles
public import Idealize.ShloMosaic.Lib.IdealHost

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- The origin of two axes. -/
theorem hz2 : (![0, 0] : Fin 2 → Nat) = fun _ => 0 := by decide

/-- The origin of three axes. -/
theorem hz3 : (![0, 0, 0] : Fin 3 → Nat) = fun _ => 0 := by decide

/-- A load of a whole buffer is what it holds. -/
theorem readWhole {κ : Kind} {sp : Space} {S : Shape} {e : EltTy} (M : Memref sig κ sp S e) (h : M.IsWhole)
    {off : Fin S.rank → Nat} (ho : off = fun _ => 0) (inb : ∀ a, off a + S.size a ≤ S.size a) (X : S.Idx → Elt F e) :
    View.readAt (Elt F) M.view (Rect.unit off S.size inb).toLoadRect (h.unread X) = X := by
  rw [View.readAt_eq_ld, h.read_unread]; exact View.ld_unit_zero ho inb X

/-- A load of a whole buffer a list of pieces was written over is what the pieces leave. -/
theorem readCovWhole {κ : Kind} {sp : Space} {S : Shape} {e : EltTy} (v : View sig κ sp S e)
    {off : Fin S.rank → Nat} (ho : off = fun _ => 0) (inb : ∀ a, off a + S.size a ≤ S.size a) (L : List (View.Piece (Elt F) S e)) :
    v.readCov L (Rect.unit off S.size inb).toLoadRect = View.canon L := by
  rw [View.readCov_eq_canon']; exact View.ld_unit_zero ho inb (View.canon L)

/-- The sequence length of grid point `i`. -/
def lenOf (i : grid0.Coords) (x0 : Vec F S6 .i32) : Elt F .i32 := x0 (ix1 (i 0))

/-- The place of the length read is the point number. -/
theorem off17_val (i : grid0.Coords) : k0_off17 i 0 = (i 0).val := by
  have h : (i 0).val < 6 := (i 0).isLt
  show (BitVec.ofNat 32 (i 0).val).toNat = _
  rw [BitVec.toNat_ofNat, Nat.mod_eq_of_lt (by omega)]

variable (c : Dev nD) (i : grid0.Coords) (arg1 : Memref sig .tc .smem S6 .i32) (harg1 : arg1.IsWhole) (arg2 : Memref sig .tc .smem S32x8 .f32) (harg2 : arg2.IsWhole) (arg3 : Memref sig .tc .vmem S1x256x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S4096x1024 .fp8e4m3) (harg7 : arg7.IsWhole) (arg8 : Memref sig .tc .vmem S1x256x4096 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x1024 .fp8e5m2) (harg11 : arg11.IsWhole) (arg12 : Memref sig .tc .vmem S1x256x8 .f32) (harg12 : arg12.IsWhole) (arg13 : Memref sig .tc .vmem S4096x1024 .bf16) (harg13 : arg13.IsWhole) (arg14 : Memref sig .tc .vmem S256x1024 .bf16) (harg14 : arg14.IsWhole)
variable (x0 : Vec F S6 .i32) (x1 : Vec F S32x8 .f32) (x2 : Vec F S1x256x1024 .bf16) (x3 : Vec F S1x1024 .f32) (x4 : Vec F S1x1024 .f32) (x5 : Vec F S1x1x1024 .f32) (x6 : Vec F S4096x1024 .fp8e4m3) (xo8 : Vec F S1x1024 .f32) (xo9 : Vec F S1x1024 .f32) (xs0 : Vec F S4096x1024 .bf16)

/-- The length read is the sequence's. -/
theorem lenW_eq : lenW i arg1 harg1 x0 = lenOf i x0 := by
  unfold lenW lenOf
  rw [View.readAt_eq_ld, harg1.read_unread]
  refine View.ld_unit_apply_of _ _ _ _ _ _ fun a => ?_
  obtain rfl : a = 0 := Subsingleton.elim _ _
  rw [off17_val i]
  rfl

/-- The piece a trip of the weights' loop writes, of one scale and one block of codes. -/
def wPay (s : Elt F .f32) (code : Vec F S128x128 .fp8e4m3) : FVec F S128x128 .bf16 :=
  shapeCast S128x128 (mulf (extf .bf16 code bitsLt_fp8e4m3_bf16) (truncf .bf16 (broadcast S128x128 s) bitsLt_bf16_f32)) shapeCasts_S128x128_S128x128

/-- The codes a grid point leaves, as a function of what it loads. -/
theorem out_A_10 (hc0 : cond0_0 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 =
    View.canon (codeL (rowV (lenOf i x0) x2) (vV (lenOf i x0) x2 x3 x4 x5)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  refine Eq.trans (b := View.canon (codeL (rowV (lenW i arg1 harg1 x0) (View.readAt (Elt F) arg3.view (Rect.unit ![0, 0, 0] S1x256x1024.size inb_S1x256x1024_S1x256x1024_0_0_0).toLoadRect (harg3.unread x2))) (vV (lenW i arg1 harg1 x0) (View.readAt (Elt F) arg3.view (Rect.unit ![0, 0, 0] S1x256x1024.size inb_S1x256x1024_S1x256x1024_0_0_0).toLoadRect (harg3.unread x2)) (View.readAt (Elt F) arg4.view (Rect.unit ![0, 0] S1x1024.size inb_S1x1024_S1x1024_0_0).toLoadRect (harg4.unread x3)) (View.readAt (Elt F) arg5.view (Rect.unit ![0, 0] S1x1024.size inb_S1x1024_S1x1024_0_0).toLoadRect (harg5.unread x4)) (View.readAt (Elt F) arg6.view (Rect.unit ![0, 0, 0] S1x1x1024.size inb_S1x1x1024_S1x1x1024_0_0_0).toLoadRect (harg6.unread x5))))) (by rfl) ?_
  rw [lenW_eq, readWhole arg3 harg3 hz3, readWhole arg4 harg4 hz2, readWhole arg5 harg5 hz2, readWhole arg6 harg6 hz3]

/-- The scales a grid point leaves, as a function of what it loads. -/
theorem out_A_11 (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 =
    View.canon (scaleL (rowV (lenOf i x0) x2) (vV (lenOf i x0) x2 x3 x4 x5)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  refine Eq.trans (b := View.canon (scaleL (rowV (lenW i arg1 harg1 x0) (View.readAt (Elt F) arg3.view (Rect.unit ![0, 0, 0] S1x256x1024.size inb_S1x256x1024_S1x256x1024_0_0_0).toLoadRect (harg3.unread x2))) (vV (lenW i arg1 harg1 x0) (View.readAt (Elt F) arg3.view (Rect.unit ![0, 0, 0] S1x256x1024.size inb_S1x256x1024_S1x256x1024_0_0_0).toLoadRect (harg3.unread x2)) (View.readAt (Elt F) arg4.view (Rect.unit ![0, 0] S1x1024.size inb_S1x1024_S1x1024_0_0).toLoadRect (harg4.unread x3)) (View.readAt (Elt F) arg5.view (Rect.unit ![0, 0] S1x1024.size inb_S1x1024_S1x1024_0_0).toLoadRect (harg5.unread x4)) (View.readAt (Elt F) arg6.view (Rect.unit ![0, 0, 0] S1x1x1024.size inb_S1x1x1024_S1x1x1024_0_0_0).toLoadRect (harg6.unread x5))))) (by rfl) ?_
  rw [lenW_eq, readWhole arg3 harg3 hz3, readWhole arg4 harg4 hz2, readWhole arg5 harg5 hz2, readWhole arg6 harg6 hz3]

/-- The codes a grid point leaves, as a function of what it loads. -/
theorem out_B_10 (hc0 : ¬cond0_0 i) : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs0 =
    View.canon (codeL (rowV (lenOf i x0) x2) (vV (lenOf i x0) x2 x3 x4 x5)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs0)]
  refine Eq.trans (b := View.canon (codeL (rowV (lenW i arg1 harg1 x0) (View.readAt (Elt F) arg3.view (Rect.unit ![0, 0, 0] S1x256x1024.size inb_S1x256x1024_S1x256x1024_0_0_0).toLoadRect (harg3.unread x2))) (vV (lenW i arg1 harg1 x0) (View.readAt (Elt F) arg3.view (Rect.unit ![0, 0, 0] S1x256x1024.size inb_S1x256x1024_S1x256x1024_0_0_0).toLoadRect (harg3.unread x2)) (View.readAt (Elt F) arg4.view (Rect.unit ![0, 0] S1x1024.size inb_S1x1024_S1x1024_0_0).toLoadRect (harg4.unread x3)) (View.readAt (Elt F) arg5.view (Rect.unit ![0, 0] S1x1024.size inb_S1x1024_S1x1024_0_0).toLoadRect (harg5.unread x4)) (View.readAt (Elt F) arg6.view (Rect.unit ![0, 0, 0] S1x1x1024.size inb_S1x1x1024_S1x1x1024_0_0_0).toLoadRect (harg6.unread x5))))) (by rfl) ?_
  rw [lenW_eq, readWhole arg3 harg3 hz3, readWhole arg4 harg4 hz2, readWhole arg5 harg5 hz2, readWhole arg6 harg6 hz3]

/-- The scales a grid point leaves, as a function of what it loads. -/
theorem out_B_11 (hc0 : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs0 =
    View.canon (scaleL (rowV (lenOf i x0) x2) (vV (lenOf i x0) x2 x3 x4 x5)) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo8 xo9 xs0)]
  refine Eq.trans (b := View.canon (scaleL (rowV (lenW i arg1 harg1 x0) (View.readAt (Elt F) arg3.view (Rect.unit ![0, 0, 0] S1x256x1024.size inb_S1x256x1024_S1x256x1024_0_0_0).toLoadRect (harg3.unread x2))) (vV (lenW i arg1 harg1 x0) (View.readAt (Elt F) arg3.view (Rect.unit ![0, 0, 0] S1x256x1024.size inb_S1x256x1024_S1x256x1024_0_0_0).toLoadRect (harg3.unread x2)) (View.readAt (Elt F) arg4.view (Rect.unit ![0, 0] S1x1024.size inb_S1x1024_S1x1024_0_0).toLoadRect (harg4.unread x3)) (View.readAt (Elt F) arg5.view (Rect.unit ![0, 0] S1x1024.size inb_S1x1024_S1x1024_0_0).toLoadRect (harg5.unread x4)) (View.readAt (Elt F) arg6.view (Rect.unit ![0, 0, 0] S1x1x1024.size inb_S1x1x1024_S1x1x1024_0_0_0).toLoadRect (harg6.unread x5))))) (by rfl) ?_
  rw [lenW_eq, readWhole arg3 harg3 hz3, readWhole arg4 harg4 hz2, readWhole arg5 harg5 hz2, readWhole arg6 harg6 hz3]

variable (hc0 : cond0_0 i) (hc0' : ¬cond0_0 i) (k : Fin k0_t1_loop.trips)

/-- The eight pieces of one trip, last first. -/
theorem trip_pieces : tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 hc0 (harg2.unread x1) (harg7.unread x6) k =
    [⟨Rect.unit (s := S4096x1024) (k0_off16 k) S128x128.size (k0_off16_inb i k hc0), wPay (View.readAt (Elt F) arg2.view (Rect.unit (s := S32x8) (k0_off15 k) S1x1.size (k0_off15_inb i k hc0)).toLoadRect (harg2.unread x1) (Shape.Idx.first (show 0 < S1x1.numel by rw [numel1_S1x1]; exact Nat.one_pos))) (View.readAt (Elt F) arg7.view (Rect.unit (s := S4096x1024) (k0_off16 k) S128x128.size (k0_off16_inb i k hc0)).toLoadRect (harg7.unread x6))⟩,
     ⟨Rect.unit (s := S4096x1024) (k0_off14 k) S128x128.size (k0_off14_inb i k hc0), wPay (View.readAt (Elt F) arg2.view (Rect.unit (s := S32x8) (k0_off13 k) S1x1.size (k0_off13_inb i k hc0)).toLoadRect (harg2.unread x1) (Shape.Idx.first (show 0 < S1x1.numel by rw [numel1_S1x1]; exact Nat.one_pos))) (View.readAt (Elt F) arg7.view (Rect.unit (s := S4096x1024) (k0_off14 k) S128x128.size (k0_off14_inb i k hc0)).toLoadRect (harg7.unread x6))⟩,
     ⟨Rect.unit (s := S4096x1024) (k0_off12 k) S128x128.size (k0_off12_inb i k hc0), wPay (View.readAt (Elt F) arg2.view (Rect.unit (s := S32x8) (k0_off11 k) S1x1.size (k0_off11_inb i k hc0)).toLoadRect (harg2.unread x1) (Shape.Idx.first (show 0 < S1x1.numel by rw [numel1_S1x1]; exact Nat.one_pos))) (View.readAt (Elt F) arg7.view (Rect.unit (s := S4096x1024) (k0_off12 k) S128x128.size (k0_off12_inb i k hc0)).toLoadRect (harg7.unread x6))⟩,
     ⟨Rect.unit (s := S4096x1024) (k0_off10 k) S128x128.size (k0_off10_inb i k hc0), wPay (View.readAt (Elt F) arg2.view (Rect.unit (s := S32x8) (k0_off9 k) S1x1.size (k0_off9_inb i k hc0)).toLoadRect (harg2.unread x1) (Shape.Idx.first (show 0 < S1x1.numel by rw [numel1_S1x1]; exact Nat.one_pos))) (View.readAt (Elt F) arg7.view (Rect.unit (s := S4096x1024) (k0_off10 k) S128x128.size (k0_off10_inb i k hc0)).toLoadRect (harg7.unread x6))⟩,
     ⟨Rect.unit (s := S4096x1024) (k0_off8 k) S128x128.size (k0_off8_inb i k hc0), wPay (View.readAt (Elt F) arg2.view (Rect.unit (s := S32x8) (k0_off7 k) S1x1.size (k0_off7_inb i k hc0)).toLoadRect (harg2.unread x1) (Shape.Idx.first (show 0 < S1x1.numel by rw [numel1_S1x1]; exact Nat.one_pos))) (View.readAt (Elt F) arg7.view (Rect.unit (s := S4096x1024) (k0_off8 k) S128x128.size (k0_off8_inb i k hc0)).toLoadRect (harg7.unread x6))⟩,
     ⟨Rect.unit (s := S4096x1024) (k0_off6 k) S128x128.size (k0_off6_inb i k hc0), wPay (View.readAt (Elt F) arg2.view (Rect.unit (s := S32x8) (k0_off5 k) S1x1.size (k0_off5_inb i k hc0)).toLoadRect (harg2.unread x1) (Shape.Idx.first (show 0 < S1x1.numel by rw [numel1_S1x1]; exact Nat.one_pos))) (View.readAt (Elt F) arg7.view (Rect.unit (s := S4096x1024) (k0_off6 k) S128x128.size (k0_off6_inb i k hc0)).toLoadRect (harg7.unread x6))⟩,
     ⟨Rect.unit (s := S4096x1024) (k0_off4 k) S128x128.size (k0_off4_inb i k hc0), wPay (View.readAt (Elt F) arg2.view (Rect.unit (s := S32x8) (k0_off3 k) S1x1.size (k0_off3_inb i k hc0)).toLoadRect (harg2.unread x1) (Shape.Idx.first (show 0 < S1x1.numel by rw [numel1_S1x1]; exact Nat.one_pos))) (View.readAt (Elt F) arg7.view (Rect.unit (s := S4096x1024) (k0_off4 k) S128x128.size (k0_off4_inb i k hc0)).toLoadRect (harg7.unread x6))⟩,
     ⟨Rect.unit (s := S4096x1024) (k0_off2 k) S128x128.size (k0_off2_inb i k hc0), wPay (View.readAt (Elt F) arg2.view (Rect.unit (s := S32x8) (k0_off1 k) S1x1.size (k0_off1_inb i k hc0)).toLoadRect (harg2.unread x1) (Shape.Idx.first (show 0 < S1x1.numel by rw [numel1_S1x1]; exact Nat.one_pos))) (View.readAt (Elt F) arg7.view (Rect.unit (s := S4096x1024) (k0_off2 k) S128x128.size (k0_off2_inb i k hc0)).toLoadRect (harg7.unread x6))⟩] := by
  unfold tripL_k0_t1 trip_k0_t1
  rfl

/-- The dequantised weights the first grid point leaves in its scratch. -/
theorem sout_A_0 : sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = View.canon (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 hc0 (harg2.unread x1) (harg7.unread x6) k0_t1_loop.trips) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  rfl

/-- The product the first grid point leaves. -/
theorem out_A_7 : out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 =
    k0_pay1 (View.canon (dhwL (rowV (lenOf i x0) x2) (vV (lenOf i x0) x2 x3 x4 x5))) (sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6), sout_A_0]
  refine Eq.trans (b := View.canon [⟨Rect.unit ![0, 0, 0] S1x256x4096.size inb_S1x256x4096_S1x256x4096_0_0_0, k0_pay1 (arg14.view.readCov (dhwL (rowV (lenW i arg1 harg1 x0) (View.readAt (Elt F) arg3.view (Rect.unit ![0, 0, 0] S1x256x1024.size inb_S1x256x1024_S1x256x1024_0_0_0).toLoadRect (harg3.unread x2))) (vV (lenW i arg1 harg1 x0) (View.readAt (Elt F) arg3.view (Rect.unit ![0, 0, 0] S1x256x1024.size inb_S1x256x1024_S1x256x1024_0_0_0).toLoadRect (harg3.unread x2)) (View.readAt (Elt F) arg4.view (Rect.unit ![0, 0] S1x1024.size inb_S1x1024_S1x1024_0_0).toLoadRect (harg4.unread x3)) (View.readAt (Elt F) arg5.view (Rect.unit ![0, 0] S1x1024.size inb_S1x1024_S1x1024_0_0).toLoadRect (harg5.unread x4)) (View.readAt (Elt F) arg6.view (Rect.unit ![0, 0, 0] S1x1x1024.size inb_S1x1x1024_S1x1x1024_0_0_0).toLoadRect (harg6.unread x5)))) (Rect.unit ![0, 0] S256x1024.size inb_S256x1024_S256x1024_0_0).toLoadRect)
    (arg13.view.readCov (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 hc0 (harg2.unread x1) (harg7.unread x6) k0_t1_loop.trips) (Rect.unit ![0, 0] S4096x1024.size inb_S4096x1024_S4096x1024_0_0).toLoadRect)⟩]) (by rfl) ?_
  rw [View.canon_unit_zero hz3, readCovWhole _ hz2, readCovWhole _ hz2]
  rw [lenW_eq, readWhole arg3 harg3 hz3, readWhole arg4 harg4 hz2, readWhole arg5 harg5 hz2, readWhole arg6 harg6 hz3]

/-- The product a later grid point leaves. -/
theorem out_B_7 : out0_B_7 c i arg1 harg1 arg2 harg2 arg3 harg3 arg4 harg4 arg5 harg5 arg6 harg6 arg7 harg7 arg8 harg8 arg9 harg9 arg10 harg10 arg11 harg11 arg12 harg12 arg13 harg13 arg14 harg14 hc0' x0 x1 x2 x3 x4 x5 x6 xo8 xo9 xs0 =
    k0_pay1 (View.canon (dhwL (rowV (lenOf i x0) x2) (vV (lenOf i x0) x2 x3 x4 x5))) xs0 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc0' x0 x1 x2 x3 x4 x5 x6 xo8 xo9 xs0)]
  refine Eq.trans (b := View.canon [⟨Rect.unit ![0, 0, 0] S1x256x4096.size inb_S1x256x4096_S1x256x4096_0_0_0, k0_pay1 (arg14.view.readCov (dhwL (rowV (lenW i arg1 harg1 x0) (View.readAt (Elt F) arg3.view (Rect.unit ![0, 0, 0] S1x256x1024.size inb_S1x256x1024_S1x256x1024_0_0_0).toLoadRect (harg3.unread x2))) (vV (lenW i arg1 harg1 x0) (View.readAt (Elt F) arg3.view (Rect.unit ![0, 0, 0] S1x256x1024.size inb_S1x256x1024_S1x256x1024_0_0_0).toLoadRect (harg3.unread x2)) (View.readAt (Elt F) arg4.view (Rect.unit ![0, 0] S1x1024.size inb_S1x1024_S1x1024_0_0).toLoadRect (harg4.unread x3)) (View.readAt (Elt F) arg5.view (Rect.unit ![0, 0] S1x1024.size inb_S1x1024_S1x1024_0_0).toLoadRect (harg5.unread x4)) (View.readAt (Elt F) arg6.view (Rect.unit ![0, 0, 0] S1x1x1024.size inb_S1x1x1024_S1x1x1024_0_0_0).toLoadRect (harg6.unread x5)))) (Rect.unit ![0, 0] S256x1024.size inb_S256x1024_S256x1024_0_0).toLoadRect)
    (View.readAt (Elt F) arg13.view (Rect.unit ![0, 0] S4096x1024.size inb_S4096x1024_S4096x1024_0_0).toLoadRect (harg13.unread xs0))⟩]) (by rfl) ?_
  rw [View.canon_unit_zero hz3, readCovWhole _ hz2, readWhole arg13 harg13 hz2]
  rw [lenW_eq, readWhole arg3 harg3 hz3, readWhole arg4 harg4 hz2, readWhole arg5 harg5 hz2, readWhole arg6 harg6 hz3]

/-- The running sum for `gamma` after the first grid point. -/
theorem out_A_8 : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 =
    k0_pay25 (k0_pay16 (lenOf i x0)) (k0_pay20 x2 (lenOf i x0)) (k0_pay21 x2 (lenOf i x0) x3) (k0_pay22 x4) (k0_pay23 (lenOf i x0)) x5 k0_pay10 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  refine Eq.trans (b := View.canon [⟨(Rect.unit ![0, 0] S1x1024.size inb_S1x1024_S1x1024_0_0), k0_pay25 (k0_pay16 (lenW i arg1 harg1 x0)) (k0_pay20 (View.readAt (Elt F) arg3.view (Rect.unit ![0, 0, 0] S1x256x1024.size inb_S1x256x1024_S1x256x1024_0_0_0).toLoadRect (harg3.unread x2)) (lenW i arg1 harg1 x0)) (k0_pay21 (View.readAt (Elt F) arg3.view (Rect.unit ![0, 0, 0] S1x256x1024.size inb_S1x256x1024_S1x256x1024_0_0_0).toLoadRect (harg3.unread x2)) (lenW i arg1 harg1 x0) (View.readAt (Elt F) arg4.view (Rect.unit ![0, 0] S1x1024.size inb_S1x1024_S1x1024_0_0).toLoadRect (harg4.unread x3))) (k0_pay22 (View.readAt (Elt F) arg5.view (Rect.unit ![0, 0] S1x1024.size inb_S1x1024_S1x1024_0_0).toLoadRect (harg5.unread x4))) (k0_pay23 (lenW i arg1 harg1 x0)) (View.readAt (Elt F) arg6.view (Rect.unit ![0, 0, 0] S1x1x1024.size inb_S1x1x1024_S1x1x1024_0_0_0).toLoadRect (harg6.unread x5)) (arg9.view.readCov [⟨(Rect.unit ![0, 0] S1x1024.size inb_S1x1024_S1x1024_0_0), k0_pay10⟩] (Rect.unit ![0, 0] S1x1024.size inb_S1x1024_S1x1024_0_0).toLoadRect)⟩, ⟨(Rect.unit ![0, 0] S1x1024.size inb_S1x1024_S1x1024_0_0), k0_pay10⟩]) (by rfl) ?_
  rw [View.canon_cons_unit_zero hz2, readCovWhole _ hz2, View.canon_unit_zero hz2]
  rw [lenW_eq, readWhole arg3 harg3 hz3, readWhole arg4 harg4 hz2, readWhole arg5 harg5 hz2, readWhole arg6 harg6 hz3]

/-- The running sum for `beta` after the first grid point. -/
theorem out_A_9 : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 =
    k0_pay26 (k0_pay16 (lenOf i x0)) (k0_pay17 (lenOf i x0)) (k0_pay21 x2 (lenOf i x0) x3) (k0_pay22 x4) (k0_pay23 (lenOf i x0)) x5 k0_pay11 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  refine Eq.trans (b := View.canon [⟨(Rect.unit ![0, 0] S1x1024.size inb_S1x1024_S1x1024_0_0), k0_pay26 (k0_pay16 (lenW i arg1 harg1 x0)) (k0_pay17 (lenW i arg1 harg1 x0)) (k0_pay21 (View.readAt (Elt F) arg3.view (Rect.unit ![0, 0, 0] S1x256x1024.size inb_S1x256x1024_S1x256x1024_0_0_0).toLoadRect (harg3.unread x2)) (lenW i arg1 harg1 x0) (View.readAt (Elt F) arg4.view (Rect.unit ![0, 0] S1x1024.size inb_S1x1024_S1x1024_0_0).toLoadRect (harg4.unread x3))) (k0_pay22 (View.readAt (Elt F) arg5.view (Rect.unit ![0, 0] S1x1024.size inb_S1x1024_S1x1024_0_0).toLoadRect (harg5.unread x4))) (k0_pay23 (lenW i arg1 harg1 x0)) (View.readAt (Elt F) arg6.view (Rect.unit ![0, 0, 0] S1x1x1024.size inb_S1x1x1024_S1x1x1024_0_0_0).toLoadRect (harg6.unread x5)) (arg10.view.readCov [⟨(Rect.unit ![0, 0] S1x1024.size inb_S1x1024_S1x1024_0_0), k0_pay11⟩] (Rect.unit ![0, 0] S1x1024.size inb_S1x1024_S1x1024_0_0).toLoadRect)⟩, ⟨(Rect.unit ![0, 0] S1x1024.size inb_S1x1024_S1x1024_0_0), k0_pay11⟩]) (by rfl) ?_
  rw [View.canon_cons_unit_zero hz2, readCovWhole _ hz2, View.canon_unit_zero hz2]
  rw [lenW_eq, readWhole arg3 harg3 hz3, readWhole arg4 harg4 hz2, readWhole arg5 harg5 hz2, readWhole arg6 harg6 hz3]

/-- The running sum for `gamma` after a later grid point. -/
theorem out_B_8 : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0' x0 x1 x2 x3 x4 x5 x6 xo8 xo9 xs0 =
    k0_pay25 (k0_pay16 (lenOf i x0)) (k0_pay20 x2 (lenOf i x0)) (k0_pay21 x2 (lenOf i x0) x3) (k0_pay22 x4) (k0_pay23 (lenOf i x0)) x5 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0' x0 x1 x2 x3 x4 x5 x6 xo8 xo9 xs0)]
  refine Eq.trans (b := View.canon [⟨(Rect.unit ![0, 0] S1x1024.size inb_S1x1024_S1x1024_0_0), k0_pay25 (k0_pay16 (lenW i arg1 harg1 x0)) (k0_pay20 (View.readAt (Elt F) arg3.view (Rect.unit ![0, 0, 0] S1x256x1024.size inb_S1x256x1024_S1x256x1024_0_0_0).toLoadRect (harg3.unread x2)) (lenW i arg1 harg1 x0)) (k0_pay21 (View.readAt (Elt F) arg3.view (Rect.unit ![0, 0, 0] S1x256x1024.size inb_S1x256x1024_S1x256x1024_0_0_0).toLoadRect (harg3.unread x2)) (lenW i arg1 harg1 x0) (View.readAt (Elt F) arg4.view (Rect.unit ![0, 0] S1x1024.size inb_S1x1024_S1x1024_0_0).toLoadRect (harg4.unread x3))) (k0_pay22 (View.readAt (Elt F) arg5.view (Rect.unit ![0, 0] S1x1024.size inb_S1x1024_S1x1024_0_0).toLoadRect (harg5.unread x4))) (k0_pay23 (lenW i arg1 harg1 x0)) (View.readAt (Elt F) arg6.view (Rect.unit ![0, 0, 0] S1x1x1024.size inb_S1x1x1024_S1x1x1024_0_0_0).toLoadRect (harg6.unread x5)) (View.readAt (Elt F) arg9.view (Rect.unit ![0, 0] S1x1024.size inb_S1x1024_S1x1024_0_0).toLoadRect (harg9.unread xo8))⟩]) (by rfl) ?_
  rw [View.canon_cons_unit_zero hz2, readWhole arg9 harg9 hz2]
  rw [lenW_eq, readWhole arg3 harg3 hz3, readWhole arg4 harg4 hz2, readWhole arg5 harg5 hz2, readWhole arg6 harg6 hz3]

/-- The running sum for `beta` after a later grid point. -/
theorem out_B_9 : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0' x0 x1 x2 x3 x4 x5 x6 xo8 xo9 xs0 =
    k0_pay26 (k0_pay16 (lenOf i x0)) (k0_pay17 (lenOf i x0)) (k0_pay21 x2 (lenOf i x0) x3) (k0_pay22 x4) (k0_pay23 (lenOf i x0)) x5 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0' x0 x1 x2 x3 x4 x5 x6 xo8 xo9 xs0)]
  refine Eq.trans (b := View.canon [⟨(Rect.unit ![0, 0] S1x1024.size inb_S1x1024_S1x1024_0_0), k0_pay26 (k0_pay16 (lenW i arg1 harg1 x0)) (k0_pay17 (lenW i arg1 harg1 x0)) (k0_pay21 (View.readAt (Elt F) arg3.view (Rect.unit ![0, 0, 0] S1x256x1024.size inb_S1x256x1024_S1x256x1024_0_0_0).toLoadRect (harg3.unread x2)) (lenW i arg1 harg1 x0) (View.readAt (Elt F) arg4.view (Rect.unit ![0, 0] S1x1024.size inb_S1x1024_S1x1024_0_0).toLoadRect (harg4.unread x3))) (k0_pay22 (View.readAt (Elt F) arg5.view (Rect.unit ![0, 0] S1x1024.size inb_S1x1024_S1x1024_0_0).toLoadRect (harg5.unread x4))) (k0_pay23 (lenW i arg1 harg1 x0)) (View.readAt (Elt F) arg6.view (Rect.unit ![0, 0, 0] S1x1x1024.size inb_S1x1x1024_S1x1x1024_0_0_0).toLoadRect (harg6.unread x5)) (View.readAt (Elt F) arg10.view (Rect.unit ![0, 0] S1x1024.size inb_S1x1024_S1x1024_0_0).toLoadRect (harg10.unread xo9))⟩]) (by rfl) ?_
  rw [View.canon_cons_unit_zero hz2, readWhole arg10 harg10 hz2]
  rw [lenW_eq, readWhole arg3 harg3 hz3, readWhole arg4 harg4 hz2, readWhole arg5 harg5 hz2, readWhole arg6 harg6 hz3]

end Cert.KernelIdeal.Hand
-- ==== Proof.Search.lean ====
module

public import proofs.«01_k».proof.Proof.Math

@[expose] public section

noncomputable section

namespace Cert.Hand

open Idealize.ShloMosaic

/-! ## The scale's exponent: a search from the top bit of the exponent field -/

/-- The number whose float has exponent field `n` and significand zero. -/
def pw (n : ℕ) : EReal := if n = 0 then 0 else if 255 ≤ n then ⊤ else (((2 : ℝ) ^ ((n : ℤ) - 127) : ℝ) : EReal)

/-- The float with exponent field `n` and significand zero denotes that number. -/
theorem ofBits_shl (n : ℕ) (hn : n < 256) : Ideal.ofBits .f32 (IntOp.shli .vector (BitVec.ofNat 32 n) 23#32) = pw n := by
  have hx : IntOp.shli .vector (BitVec.ofNat 32 n) 23#32 = BitVec.ofNat 32 (n * 2 ^ 23) := by
    unfold IntOp.shli
    rw [if_pos (by decide)]
    apply BitVec.eq_of_toNat_eq
    simp only [BitVec.shiftLeft_eq', BitVec.toNat_shiftLeft, BitVec.toNat_ofNat, Nat.shiftLeft_eq]
    norm_num
  rw [hx]
  have ht : (BitVec.ofNat 32 (n * 2 ^ 23)).toNat = n * 2 ^ 23 := by
    rw [BitVec.toNat_ofNat, Nat.mod_eq_of_lt (by omega)]
  have e1 : (BitVec.ofNat 32 (n * 2 ^ 23)).extractLsb' (8 + 23) 1 = 0#1 := by
    apply BitVec.eq_of_toNat_eq
    rw [BitVec.extractLsb'_toNat, ht, Nat.shiftRight_eq_div_pow]
    norm_num
    omega
  have e2 : ((BitVec.ofNat 32 (n * 2 ^ 23)).extractLsb' 23 8).toNat = n := by
    rw [BitVec.extractLsb'_toNat, ht, Nat.shiftRight_eq_div_pow]
    norm_num
    omega
  have e3 : ((BitVec.ofNat 32 (n * 2 ^ 23)).extractLsb' 0 23).toNat = 0 := by
    rw [BitVec.extractLsb'_toNat, ht, Nat.shiftRight_eq_div_pow]
    norm_num
  show Ideal.ieee 8 23 (BitVec.ofNat 32 (n * 2 ^ 23)) = pw n
  unfold Ideal.ieee pw
  simp only [e1, e2, e3]
  by_cases h0 : n = 0
  · subst h0; norm_num
  · rw [if_neg h0]
    by_cases h1 : n = 255
    · subst h1; norm_num
    · rw [if_neg (show ¬(n = 2 ^ 8 - 1) by omega), if_neg (show ¬(255 ≤ n) by omega), if_neg h0]
      refine congrArg (fun r : ℝ => (r : EReal)) ?_
      rw [if_neg (by decide)]
      have : (2 : ℝ) ^ ((n : ℤ) - (2 ^ (8 - 1) - 1) - (23 : ℕ)) = (2 : ℝ) ^ ((n : ℤ) - 127) * (2 : ℝ) ^ (-23 : ℤ) := by
        rw [← zpow_add₀ (by norm_num)]
        congr 1
      rw [this]
      norm_num
      ring

/-- One step of the search, on words. -/
def stepS (c : EReal) (bit b : BitVec 32) : BitVec 32 :=
  if Ideal.ofBits .f32 (IntOp.shli .vector (IntOp.addi b bit) 23#32) ≤ c then IntOp.addi b bit else b

/-- The exponent field the search finds. -/
def searchS (c : EReal) : BitVec 32 :=
  stepS c 1#32 (stepS c 2#32 (stepS c 4#32 (stepS c 8#32 (stepS c 16#32 (stepS c 32#32 (stepS c 64#32 (stepS c 128#32 0#32)))))))

/-- The exponent field, `126` in place of zero. -/
def expS (c : EReal) : BitVec 32 := if searchS c = 0#32 then 126#32 else searchS c

/-- The scale. -/
def sclS (c : EReal) : EReal := Ideal.ofBits .f32 (IntOp.shli .vector (IntOp.addi (expS c) 1#32) 23#32)

/-- Its reciprocal. -/
def invS (c : EReal) : EReal := Ideal.ofBits .f32 (IntOp.shli .vector (IntOp.subi 253#32 (expS c)) 23#32)

/-- The largest magnitude of a block's row. -/
def amax (f : Fin 128 → EReal) : EReal := (Finset.univ : Finset (Fin 128)).fold max (Ideal.ofBits .f32 0xFF800000#32) (fun j => max (f j) (-(f j)))

/-- The value the search looks at: the largest magnitude times the row's factor, over the largest code. -/
def cS (r : EReal) (f : Fin 128 → EReal) : EReal := r * amax f * Ideal.ofBits .f32 0x37924925#32

/-- The code of an entry `x` of a block's row `f` with row factor `r`. -/
def codeS (r : EReal) (f : Fin 128 → EReal) (x : EReal) : EReal :=
  min (Ideal.ofBits .f32 0x47600000#32) (max (Ideal.ofBits .f32 0xC7600000#32) (x * (r * invS (cS r f))))

/-- Fields from 255 on stand for infinity. -/
theorem pw_top (n : ℕ) (h : 255 ≤ n) : pw n = ⊤ := by unfold pw; rw [if_neg (by omega), if_pos h]

/-- A field in between stands for its power of two. -/
theorem pw_mid (n : ℕ) (h0 : n ≠ 0) (h : n < 255) : pw n = (((2 : ℝ) ^ ((n : ℤ) - 127) : ℝ) : EReal) := by
  unfold pw; rw [if_neg h0, if_neg (by omega)]

/-- The bracket the search keeps: the exponent so far gives a value at most `c`, twice the bit further one above it. -/
def Bracket (c : EReal) (m : ℕ) (b : BitVec 32) : Prop :=
  ∃ n : ℕ, b = BitVec.ofNat 32 n ∧ n + m ≤ 256 ∧ pw n ≤ c ∧ c < pw (n + m)

/-- A step of the search halves the bracket. -/
theorem stepS_bracket {c : EReal} {m : ℕ} (hm : 0 < m) {b : BitVec 32} (h : Bracket c (2 * m) b) :
    Bracket c m (stepS c (BitVec.ofNat 32 m) b) := by
  obtain ⟨n, rfl, hn, hle, hlt⟩ := h
  have ha : IntOp.addi (BitVec.ofNat 32 n) (BitVec.ofNat 32 m) = BitVec.ofNat 32 (n + m) := by
    unfold IntOp.addi; rw [BitVec.ofNat_add]
  unfold stepS
  rw [ha, ofBits_shl (n + m) (by omega)]
  by_cases h : pw (n + m) ≤ c
  · rw [if_pos h]
    exact ⟨n + m, rfl, by omega, h, by rw [show n + m + m = n + 2 * m by ring]; exact hlt⟩
  · rw [if_neg h]
    exact ⟨n, rfl, by omega, hle, not_le.mp h⟩

/-- The whole search leaves a bracket of one. -/
theorem searchS_bracket (c : EReal) (h0 : 0 ≤ c) (h1 : c < ⊤) : Bracket c 1 (searchS c) := by
  have h : Bracket c 256 0#32 := ⟨0, rfl, le_refl _, by simpa [pw] using h0, by rw [pw_top _ (by norm_num)]; exact h1⟩
  unfold searchS
  exact stepS_bracket (m := 1) (by norm_num) (stepS_bracket (m := 2) (by norm_num) (stepS_bracket (m := 4) (by norm_num)
    (stepS_bracket (m := 8) (by norm_num) (stepS_bracket (m := 16) (by norm_num) (stepS_bracket (m := 32) (by norm_num)
      (stepS_bracket (m := 64) (by norm_num) (stepS_bracket (m := 128) (by norm_num) h)))))))

/-- THE SCALE: for a value `c` in range, the scale is a power of two and the other word its reciprocal; the power is one below
    the normal numbers and else the least one above `c`. -/
theorem scale_spec (c : ℝ) (h0 : 0 ≤ c) (h1 : c < 2 ^ 126) : ∃ k : ℤ, sclS (c : EReal) = (((2 : ℝ) ^ k : ℝ) : EReal)
    ∧ invS (c : EReal) = (((2 : ℝ) ^ (-k) : ℝ) : EReal)
    ∧ ((c < (2 : ℝ) ^ (-126 : ℤ) ∧ k = 0) ∨ ((2 : ℝ) ^ (-126 : ℤ) ≤ c ∧ (2 : ℝ) ^ (k - 1) ≤ c ∧ c < (2 : ℝ) ^ k ∧ -125 ≤ k ∧ k ≤ 126)) := by
  obtain ⟨n, hb, hn, hle, hlt⟩ := searchS_bracket (c : EReal) (by exact_mod_cast h0) (EReal.coe_lt_top c)
  have one : ∀ e : ℕ, e < 253 → 0 < e → expS (c : EReal) = BitVec.ofNat 32 e →
      sclS (c : EReal) = (((2 : ℝ) ^ ((e : ℤ) - 126) : ℝ) : EReal) ∧ invS (c : EReal) = (((2 : ℝ) ^ (-((e : ℤ) - 126)) : ℝ) : EReal) := by
    intro e he he0 hx
    unfold sclS invS
    rw [hx]
    have a1 : IntOp.addi (BitVec.ofNat 32 e) 1#32 = BitVec.ofNat 32 (e + 1) := by
      unfold IntOp.addi; rw [BitVec.ofNat_add]
    have a2 : IntOp.subi 253#32 (BitVec.ofNat 32 e) = BitVec.ofNat 32 (253 - e) := by
      unfold IntOp.subi
      apply BitVec.eq_of_toNat_eq
      simp only [BitVec.toNat_sub, BitVec.toNat_ofNat]
      omega
    rw [a1, a2, ofBits_shl _ (by omega), ofBits_shl _ (by omega), pw_mid _ (by omega) (by omega), pw_mid _ (by omega) (by omega)]
    constructor
    · congr 2; push_cast; ring
    · congr 2; push_cast [Nat.cast_sub (show e ≤ 253 by omega)]; ring
  by_cases hz : n = 0
  · subst hz
    rw [pw_mid _ (by norm_num) (by norm_num)] at hlt
    have hlt' : c < (2 : ℝ) ^ (-126 : ℤ) := by
      have := EReal.coe_lt_coe_iff.mp hlt
      norm_num at this ⊢
      exact this
    have hx : expS (c : EReal) = BitVec.ofNat 32 126 := by unfold expS; rw [hb]; rfl
    obtain ⟨s1, s2⟩ := one 126 (by norm_num) (by norm_num) hx
    exact ⟨0, by rw [s1]; norm_num, by rw [s2]; norm_num, Or.inl ⟨hlt', rfl⟩⟩
  · have h254 : n < 255 := by
      by_contra h
      rw [pw_top n (by omega)] at hle
      exact absurd hle (not_le.mpr (EReal.coe_lt_top c))
    rw [pw_mid n hz h254] at hle
    have hle' : (2 : ℝ) ^ ((n : ℤ) - 127) ≤ c := EReal.coe_le_coe_iff.mp hle
    have h253 : n < 253 := by
      have : (2 : ℝ) ^ ((n : ℤ) - 127) < (2 : ℝ) ^ (126 : ℤ) := lt_of_le_of_lt hle' (by exact_mod_cast h1)
      have := (zpow_lt_zpow_iff_right₀ (by norm_num : (1 : ℝ) < 2)).mp this
      omega
    rw [pw_mid (n + 1) (by omega) (by omega)] at hlt
    have hlt' : c < (2 : ℝ) ^ ((n : ℤ) - 126) := by
      have := EReal.coe_lt_coe_iff.mp hlt
      rw [show ((n + 1 : ℕ) : ℤ) - 127 = (n : ℤ) - 126 by push_cast; ring] at this
      exact this
    have hx : expS (c : EReal) = BitVec.ofNat 32 n := by
      unfold expS
      rw [hb, if_neg]
      intro h
      have := congrArg BitVec.toNat h
      rw [BitVec.toNat_ofNat, BitVec.toNat_ofNat] at this
      omega
    obtain ⟨s1, s2⟩ := one n h253 (by omega) hx
    refine ⟨(n : ℤ) - 126, s1, s2, Or.inr ⟨?_, ?_, hlt', by omega, by omega⟩⟩
    · refine le_trans ?_ hle'
      exact zpow_le_zpow_right₀ (by norm_num) (by omega)
    · rw [show (n : ℤ) - 126 - 1 = (n : ℤ) - 127 by ring]; exact hle'

end Cert.Hand
-- ==== Proof.KRead.lean ====
module

public import proofs.«01_k».proof.Proof.Outs
public import proofs.«01_k».proof.Proof.Search
public import Idealize.ShloMosaic.Lib.Pointwise
public import Idealize.ShloMosaic.Lib.Pipeline.ValueKit.Tiles
public import Idealize.ShloMosaic.Lib.IdealHost

@[expose] public section

set_option maxRecDepth 16384

noncomputable section

namespace Cert.KernelIdeal.Hand

open Cert.Hand Cert.KernelIdeal Cert.KernelIdeal.Gen Idealize.ShloMosaic Idealize.ShloMosaic.TcCoe Idealize.SL.Sem

variable (L : BitVec 32) (x2 : Vec Ideal S1x256x1024 .bf16) (x3 x4 : Vec Ideal S1x1024 .f32) (x5 : Vec Ideal S1x1x1024 .f32)

/-- The block of activations by row and feature. -/
def Xf (s : Fin 256) (d : Fin 1024) : EReal := x2 (ix3 0 s d)

/-- A row vector by feature. -/
def Rf (x : Vec Ideal S1x1024 .f32) (d : Fin 1024) : EReal := x (ix2 0 d)

/-- The gradient's block by feature. -/
def Ef (d : Fin 1024) : EReal := x5 (ix3 0 0 d)

/-- The centred rows. -/
theorem pay13_apply (s : Fin 256) (d : Fin 1024) : k0_pay13 (F := Ideal) x2 (ix2 s d) = xc (Xf x2) s d := by
  pointwise [k0_pay13]
  rfl

/-- The reciprocal deviations. -/
theorem pay14_apply (s : Fin 256) (z : Fin 1) : k0_pay14 (F := Ideal) x2 (ix2 s z) = rstd (Xf x2) s := by
  pointwise [k0_pay14, pay13_apply]
  rfl

/-- The normalised rows. -/
theorem pay15_apply (s : Fin 256) (d : Fin 1024) : k0_pay15 (F := Ideal) x2 (ix2 s d) = xhat (Xf x2) s d := by
  pointwise [k0_pay15, pay13_apply, pay14_apply]
  rfl

/-- The comparison of the row number with the length, as a number. -/
theorem mask_word (s : Fin 256) :
    (((BitVec.setWidth 32 (IntOp.cmpi CmpIPredicate.slt (BitVec.ofNat 32 s.val) L)).toInt : ℝ) : EReal) = mask L s := by
  have hs : (BitVec.ofNat 32 s.val).toInt = (s.val : ℤ) := by
    have := s.isLt
    rw [BitVec.toInt_eq_toNat_of_lt (by rw [BitVec.toNat_ofNat]; omega), BitVec.toNat_ofNat, Nat.mod_eq_of_lt (by omega)]
  unfold mask
  rw [← hs]
  by_cases h : (BitVec.ofNat 32 s.val).toInt < L.toInt
  · rw [if_pos h, show IntOp.cmpi CmpIPredicate.slt (BitVec.ofNat 32 s.val) L = 1#1 by
      simp [IntOp.cmpi, BitVec.slt, h]]
    simp
  · rw [if_neg h, show IntOp.cmpi CmpIPredicate.slt (BitVec.ofNat 32 s.val) L = 0#1 by
      simp [IntOp.cmpi, BitVec.slt, h]]
    simp

/-- The mask. -/
theorem pay18_apply (s : Fin 256) (z : Fin 1) : k0_pay18 (F := Ideal) L (ix2 s z) = mask L s := by
  pointwise [k0_pay18]
  exact mask_word L s

/-- The masked sum of the normalised rows. -/
theorem pay20_apply (z : Fin 1) (d : Fin 1024) : k0_pay20 (F := Ideal) x2 L (ix2 z d) = sx (Xf x2) L d := by
  pointwise [k0_pay20, pay15_apply, pay18_apply]
  rfl

/-- The pooled vector. -/
theorem pay21_apply (z : Fin 1) (d : Fin 1024) :
    k0_pay21 (F := Ideal) x2 L x3 (ix2 z d) = Rf x3 d * sx (Xf x2) L d := by
  obtain rfl : z = 0 := Subsingleton.elim _ _
  pointwise [k0_pay21, k0_pay19, pay20_apply]
  rfl

/-- The gradient of the pooled vector over the length. -/
theorem dplV_apply (z : Fin 1) (d : Fin 1024) : dplV (F := Ideal) L x2 x3 x4 x5 (ix2 z d) =
    dpl (Ef x5) L (poolK (Xf x2) (Rf x3) (Rf x4) L) d := by
  obtain rfl : z = 0 := Subsingleton.elim _ _
  pointwise [dplV, k0_pay16, k0_pay17, k0_pay22, k0_pay23, k0_pay24, pay21_apply]
  rfl

/-- The gradient of the pooled vector the kernel carries, by feature. -/
def dK (d : Fin 1024) : EReal := dpl (Ef x5) L (poolK (Xf x2) (Rf x3) (Rf x4) L) d

/-- One step of the gain's gradient. -/
theorem out8_apply (acc : Vec Ideal S1x1024 .f32) (z : Fin 1) (d : Fin 1024) :
    k0_pay25 (F := Ideal) (k0_pay16 L) (k0_pay20 x2 L) (k0_pay21 x2 L x3) (k0_pay22 x4) (k0_pay23 L) x5 acc (ix2 z d)
      = acc (ix2 z d) + dK L x2 x3 x4 x5 d * sx (Xf x2) L d := by
  have h := dplV_apply L x2 x3 x4 x5 z d
  unfold dplV at h
  pointwise [k0_pay25, pay20_apply, h]
  rfl

/-- One step of the offset's gradient. -/
theorem out9_apply (acc : Vec Ideal S1x1024 .f32) (z : Fin 1) (d : Fin 1024) :
    k0_pay26 (F := Ideal) (k0_pay16 L) (k0_pay17 L) (k0_pay21 x2 L x3) (k0_pay22 x4) (k0_pay23 L) x5 acc (ix2 z d)
      = acc (ix2 z d) + dK L x2 x3 x4 x5 d * cnt L := by
  have h := dplV_apply L x2 x3 x4 x5 z d
  unfold dplV at h
  pointwise [k0_pay26, k0_pay17, h]
  rfl

/-- The gradient times the gain. -/
theorem pay27_apply (z : Fin 1) (d : Fin 1024) :
    k0_pay27 (F := Ideal) (k0_pay16 L) (k0_pay19 x3) (k0_pay21 x2 L x3) (k0_pay22 x4) (k0_pay23 L) x5 (ix2 z d)
      = dK L x2 x3 x4 x5 d * Rf x3 d := by
  obtain rfl : z = 0 := Subsingleton.elim _ _
  have h := dplV_apply L x2 x3 x4 x5 0 d
  unfold dplV at h
  pointwise [k0_pay27, k0_pay19, h]
  rfl

/-- The gradient before the row factor. -/
theorem vV_apply (s : Fin 256) (d : Fin 1024) : vV (F := Ideal) L x2 x3 x4 x5 (ix2 s d) =
    vK (Xf x2) (Rf x3) (dK L x2 x3 x4 x5) s d := by
  pointwise [vV, k0_pay30, k0_pay28, k0_pay29, pay15_apply, pay27_apply]
  rfl

/-- The row factor. -/
theorem rowV_apply (s : Fin 256) (z : Fin 1) : rowV (F := Ideal) L x2 (ix2 s z) = row (Xf x2) L s := by
  pointwise [rowV, k0_pay31, pay14_apply, pay18_apply]
  rfl

variable (rw' : FVec Ideal S256x1 .f32) (v : FVec Ideal S256x1024 .f32) (vk : FVec Ideal S256x128 .f32)

/-- A block's largest magnitude times the row factor, over the largest code. -/
theorem cV_apply (s : Fin 256) (z : Fin 1) :
    cV (F := Ideal) rw' vk (ix2 s z) = cS (rw' (ix2 s 0)) (fun j => vk (ix2 s j)) := by
  obtain rfl : z = 0 := Subsingleton.elim _ _
  pointwise [cV]
  rfl

/-- The search of the exponent field goes entry by entry. -/
theorem searchV_apply (c : FVec Ideal S256x1 .f32) (i : S256x1.Idx) : searchV (F := Ideal) c i = searchS (c i) := by
  pointwise [searchV, stepV]
  rfl

/-- A select of `126` where a word is zero, at an index. -/
theorem sel_apply (N : IVec S256x1 32) (i : S256x1.Idx) :
    select (cmpi .eq N (broadcast S256x1 0#32)) (broadcast S256x1 126#32) N i = if N i = 0#32 then 126#32 else N i := by
  pointwise
  generalize N i = n
  by_cases h : n = 0#32
  · subst h; rfl
  · rw [if_neg h, show IntOp.cmpi CmpIPredicate.eq n 0#32 = 0#1 by
      show BitVec.ofBool (n == 0#32) = 0#1
      rw [beq_eq_false_iff_ne.mpr h]; rfl]
    rfl

/-- The exponent field goes entry by entry. -/
theorem expV_apply (c : FVec Ideal S256x1 .f32) (i : S256x1.Idx) : expV (F := Ideal) c i = expS (c i) := by
  unfold expV expS
  rw [sel_apply, searchV_apply]

/-- The scale goes entry by entry. -/
theorem scaleV_apply (c : FVec Ideal S256x1 .f32) (i : S256x1.Idx) : scaleV (F := Ideal) c i = sclS (c i) := by
  pointwise [scaleV, expV_apply]
  rfl

/-- The scale's reciprocal goes entry by entry. -/
theorem invV_apply (c : FVec Ideal S256x1 .f32) (i : S256x1.Idx) : invV (F := Ideal) c i = invS (c i) := by
  pointwise [invV, expV_apply]
  rfl

/-- The codes of a block. -/
theorem codeV_apply (s : Fin 256) (j : Fin 128) :
    codeV (F := Ideal) rw' vk (ix2 s j) = codeS (rw' (ix2 s 0)) (fun j => vk (ix2 s j)) (vk (ix2 s j)) := by
  pointwise [codeV, invV_apply, cV_apply]
  rfl

/-- The codes times the scale of a block. -/
theorem dhwV_apply (s : Fin 256) (j : Fin 128) :
    dhwV (F := Ideal) rw' vk (ix2 s j) = codeS (rw' (ix2 s 0)) (fun j => vk (ix2 s j)) (vk (ix2 s j))
      * sclS (cS (rw' (ix2 s 0)) (fun j => vk (ix2 s j))) := by
  pointwise [dhwV, codeV_apply, scaleV_apply, cV_apply]

/-- A feature's column block, as a function of the 128 columns. -/
def blkF (f : Fin 1024 → EReal) (b : Fin 8) (j : Fin 128) : EReal := f ⟨128 * b.val + j.val, by omega⟩

/-- The block a feature lies in. -/
def bOf (d : Fin 1024) : Fin 8 := ⟨d.val / 128, by omega⟩

/-- The codes by row and feature. -/
def codeF (r : Fin 256 → EReal) (w : Fin 256 → Fin 1024 → EReal) (s : Fin 256) (d : Fin 1024) : EReal :=
  codeS (r s) (blkF (w s) (bOf d)) (w s d)

/-- The scales by row and block. -/
def sclF (r : Fin 256 → EReal) (w : Fin 256 → Fin 1024 → EReal) (s : Fin 256) (b : Fin 8) : EReal :=
  sclS (cS (r s) (blkF (w s) b))

/-- A slice of columns is a block of features. -/
theorem blk_apply (o : ℕ) (h : S256x1024.Slices ![0, o] S256x128) (b : Fin 8) (ho : o = 128 * b.val) (s : Fin 256) (j : Fin 128) :
    blk (F := Ideal) o v h (ix2 s j) = blkF (fun d => v (ix2 s d)) b j := by
  subst ho
  pointwise [blk]
  rfl

end Cert.KernelIdeal.Hand
-- ==== Proof.Blocks.lean ====
module

public import proofs.«01_k».proof.Proof.KRead
public import Idealize.ShloMosaic.Lib.Pointwise
public import Idealize.ShloMosaic.Lib.Pipeline.ValueKit.Tiles
public import Idealize.ShloMosaic.Lib.IdealHost

@[expose] public section

set_option maxRecDepth 16384

noncomputable section

namespace Cert.KernelIdeal.Hand

open Cert.Hand Cert.KernelIdeal Cert.KernelIdeal.Gen Idealize.ShloMosaic Idealize.ShloMosaic.TcCoe Idealize.SL.Sem

variable (rw' : FVec Ideal S256x1 .f32) (v : FVec Ideal S256x1024 .f32)

/-- Feature `j` of block `b`. -/
def featOf (b : Fin 8) (j : Fin 128) : Fin 1024 := ⟨128 * b.val + j.val, by omega⟩

/-- A feature of block `b` lies in block `b`. -/
theorem bOf_feat (b : Fin 8) (j : Fin 128) : bOf (featOf b j) = b := Fin.ext (show (128 * b.val + j.val) / 128 = b.val by omega)

/-- The codes' block of a row and a feature block, placed at its columns. -/
theorem piece_code (o : ℕ) (h : S256x1024.Slices ![0, o] S256x128) (hi : ∀ a, (![0, 0, o] : Fin 3 → ℕ) a + S1x256x128.size a ≤ S1x256x1024.size a)
    (b : Fin 8) (ho : o = 128 * b.val) (hc) (x : (Rect.unit (s := S1x256x1024) ![0, 0, o] S1x256x128.size hi).shape.Idx) :
    shapeCast S1x256x128 (codeV (F := Ideal) rw' (blk o v h)) hc x
      = (fun y : S1x256x1024.Idx => codeF (fun s => rw' (ix2 s 0)) (fun s d => v (ix2 s d)) (y 1) (y 2))
          ((Rect.unit (s := S1x256x1024) ![0, 0, o] S1x256x128.size hi).emb x) := by
  obtain ⟨z, s, j, rfl⟩ : ∃ (z : Fin 1) (s : Fin 256) (j : Fin 128), x = ix3 z s j := ⟨x 0, x 1, x 2, eq_ix3 x⟩
  obtain rfl : z = 0 := Subsingleton.elim _ _
  have e1 : ((Rect.unit (s := S1x256x1024) ![0, 0, o] S1x256x128.size hi).emb (ix3 0 s j)) 1 = s :=
    Fin.ext (show 0 + 1 * s.val = s.val by omega)
  have e2 : ((Rect.unit (s := S1x256x1024) ![0, 0, o] S1x256x128.size hi).emb (ix3 0 s j)) 2 = featOf b j :=
    Fin.ext (show o + 1 * j.val = 128 * b.val + j.val by omega)
  show _ = codeF _ _ _ _
  rw [e1, e2]
  unfold codeF
  rw [bOf_feat]
  pointwise [codeV_apply, blk_apply v o h b ho]
  rfl

/-- The scales' column of a feature block, placed at its column. -/
theorem piece_scale (o k : ℕ) (h : S256x1024.Slices ![0, o] S256x128) (hi : ∀ a, (![0, 0, k] : Fin 3 → ℕ) a + S1x256x1.size a ≤ S1x256x8.size a)
    (b : Fin 8) (ho : o = 128 * b.val) (hk : k = b.val) (hc) (x : (Rect.unit (s := S1x256x8) ![0, 0, k] S1x256x1.size hi).shape.Idx) :
    shapeCast S1x256x1 (scaleV (cV (F := Ideal) rw' (blk o v h))) hc x
      = (fun y : S1x256x8.Idx => sclF (fun s => rw' (ix2 s 0)) (fun s d => v (ix2 s d)) (y 1) (y 2))
          ((Rect.unit (s := S1x256x8) ![0, 0, k] S1x256x1.size hi).emb x) := by
  obtain ⟨z, s, j, rfl⟩ : ∃ (z : Fin 1) (s : Fin 256) (j : Fin 1), x = ix3 z s j := ⟨x 0, x 1, x 2, eq_ix3 x⟩
  obtain rfl : z = 0 := Subsingleton.elim _ _
  obtain rfl : j = 0 := Subsingleton.elim _ _
  have e1 : ((Rect.unit (s := S1x256x8) ![0, 0, k] S1x256x1.size hi).emb (ix3 0 s 0)) 1 = s :=
    Fin.ext (show 0 + 1 * s.val = s.val by omega)
  have e2 : ((Rect.unit (s := S1x256x8) ![0, 0, k] S1x256x1.size hi).emb (ix3 0 s 0)) 2 = b :=
    Fin.ext (show k + 1 * 0 = b.val by omega)
  show _ = sclF _ _ _ _
  rw [e1, e2]
  unfold sclF
  pointwise [scaleV_apply, cV_apply, blk_apply v o h b ho]

/-- The dequantised block, placed at its columns. -/
theorem piece_dhw (o : ℕ) (h : S256x1024.Slices ![0, o] S256x128) (hi : ∀ a, (![0, o] : Fin 2 → ℕ) a + S256x128.size a ≤ S256x1024.size a)
    (b : Fin 8) (ho : o = 128 * b.val) (hc) (x : (Rect.unit (s := S256x1024) ![0, o] S256x128.size hi).shape.Idx) :
    shapeCast S256x128 (dhwV (F := Ideal) rw' (blk o v h)) hc x
      = (fun y : S256x1024.Idx => codeF (fun s => rw' (ix2 s 0)) (fun s d => v (ix2 s d)) (y 0) (y 1)
            * sclF (fun s => rw' (ix2 s 0)) (fun s d => v (ix2 s d)) (y 0) (bOf (y 1)))
          ((Rect.unit (s := S256x1024) ![0, o] S256x128.size hi).emb x) := by
  obtain ⟨s, j, rfl⟩ : ∃ (s : Fin 256) (j : Fin 128), x = ix2 s j := ⟨x 0, x 1, eq_ix2 x⟩
  have e1 : ((Rect.unit (s := S256x1024) ![0, o] S256x128.size hi).emb (ix2 s j)) 0 = s :=
    Fin.ext (show 0 + 1 * s.val = s.val by omega)
  have e2 : ((Rect.unit (s := S256x1024) ![0, o] S256x128.size hi).emb (ix2 s j)) 1 = featOf b j :=
    Fin.ext (show o + 1 * j.val = 128 * b.val + j.val by omega)
  show _ = codeF _ _ _ _ * sclF _ _ _ _
  rw [e1, e2]
  unfold codeF sclF
  rw [bOf_feat]
  pointwise [dhwV_apply, blk_apply v o h b ho]
  rfl

/-- The stored codes, read at any entry. -/
theorem canon_code (y : S1x256x1024.Idx) : View.canon (codeL (F := Ideal) rw' v) y
    = codeF (fun s => rw' (ix2 s 0)) (fun s d => v (ix2 s d)) (y 1) (y 2) := by
  refine View.canon_apply_of_pieces (fun y : S1x256x1024.Idx => codeF (fun s => rw' (ix2 s 0)) (fun s d => v (ix2 s d)) (y 1) (y 2)) _ ?_ y
    (View.cover_of_tiledL (codeL rw' v) S1x256x128.size (by sl_kernel_rfl) y)
  intro p hp
  simp only [codeL, List.mem_cons, List.not_mem_nil, or_false] at hp
  rcases hp with rfl | rfl | rfl | rfl | rfl | rfl | rfl | rfl
  · exact piece_code rw' v 896 _ inb_S1x256x1024_S1x256x128_0_0_896 7 (by norm_num) _
  · exact piece_code rw' v 768 _ inb_S1x256x1024_S1x256x128_0_0_768 6 (by norm_num) _
  · exact piece_code rw' v 640 _ inb_S1x256x1024_S1x256x128_0_0_640 5 (by norm_num) _
  · exact piece_code rw' v 512 _ inb_S1x256x1024_S1x256x128_0_0_512 4 (by norm_num) _
  · exact piece_code rw' v 384 _ inb_S1x256x1024_S1x256x128_0_0_384 3 (by norm_num) _
  · exact piece_code rw' v 256 _ inb_S1x256x1024_S1x256x128_0_0_256 2 (by norm_num) _
  · exact piece_code rw' v 128 _ inb_S1x256x1024_S1x256x128_0_0_128 1 (by norm_num) _
  · exact piece_code rw' v 0 _ inb_S1x256x1024_S1x256x128_0_0_0 0 (by norm_num) _

/-- The stored scales, read at any entry. -/
theorem canon_scale (y : S1x256x8.Idx) : View.canon (scaleL (F := Ideal) rw' v) y
    = sclF (fun s => rw' (ix2 s 0)) (fun s d => v (ix2 s d)) (y 1) (y 2) := by
  refine View.canon_apply_of_pieces (fun y : S1x256x8.Idx => sclF (fun s => rw' (ix2 s 0)) (fun s d => v (ix2 s d)) (y 1) (y 2)) _ ?_ y
    (View.cover_of_tiledL (scaleL rw' v) S1x256x1.size (by sl_kernel_rfl) y)
  intro p hp
  simp only [scaleL, List.mem_cons, List.not_mem_nil, or_false] at hp
  rcases hp with rfl | rfl | rfl | rfl | rfl | rfl | rfl | rfl
  · exact piece_scale rw' v 896 7 _ inb_S1x256x8_S1x256x1_0_0_7 7 (by norm_num) (by norm_num) _
  · exact piece_scale rw' v 768 6 _ inb_S1x256x8_S1x256x1_0_0_6 6 (by norm_num) (by norm_num) _
  · exact piece_scale rw' v 640 5 _ inb_S1x256x8_S1x256x1_0_0_5 5 (by norm_num) (by norm_num) _
  · exact piece_scale rw' v 512 4 _ inb_S1x256x8_S1x256x1_0_0_4 4 (by norm_num) (by norm_num) _
  · exact piece_scale rw' v 384 3 _ inb_S1x256x8_S1x256x1_0_0_3 3 (by norm_num) (by norm_num) _
  · exact piece_scale rw' v 256 2 _ inb_S1x256x8_S1x256x1_0_0_2 2 (by norm_num) (by norm_num) _
  · exact piece_scale rw' v 128 1 _ inb_S1x256x8_S1x256x1_0_0_1 1 (by norm_num) (by norm_num) _
  · exact piece_scale rw' v 0 0 _ inb_S1x256x8_S1x256x1_0_0_0 0 (by norm_num) (by norm_num) _

/-- The stored codes times scales, read at any entry. -/
theorem canon_dhw (y : S256x1024.Idx) : View.canon (dhwL (F := Ideal) rw' v) y
    = codeF (fun s => rw' (ix2 s 0)) (fun s d => v (ix2 s d)) (y 0) (y 1)
      * sclF (fun s => rw' (ix2 s 0)) (fun s d => v (ix2 s d)) (y 0) (bOf (y 1)) := by
  refine View.canon_apply_of_pieces (fun y : S256x1024.Idx => codeF (fun s => rw' (ix2 s 0)) (fun s d => v (ix2 s d)) (y 0) (y 1)
      * sclF (fun s => rw' (ix2 s 0)) (fun s d => v (ix2 s d)) (y 0) (bOf (y 1))) _ ?_ y
    (View.cover_of_tiledL (dhwL rw' v) S256x128.size (by sl_kernel_rfl) y)
  intro p hp
  simp only [dhwL, List.mem_cons, List.not_mem_nil, or_false] at hp
  rcases hp with rfl | rfl | rfl | rfl | rfl | rfl | rfl | rfl
  · exact piece_dhw rw' v 896 _ inb_S256x1024_S256x128_0_896 7 (by norm_num) _
  · exact piece_dhw rw' v 768 _ inb_S256x1024_S256x128_0_768 6 (by norm_num) _
  · exact piece_dhw rw' v 640 _ inb_S256x1024_S256x128_0_640 5 (by norm_num) _
  · exact piece_dhw rw' v 512 _ inb_S256x1024_S256x128_0_512 4 (by norm_num) _
  · exact piece_dhw rw' v 384 _ inb_S256x1024_S256x128_0_384 3 (by norm_num) _
  · exact piece_dhw rw' v 256 _ inb_S256x1024_S256x128_0_256 2 (by norm_num) _
  · exact piece_dhw rw' v 128 _ inb_S256x1024_S256x128_0_128 1 (by norm_num) _
  · exact piece_dhw rw' v 0 _ inb_S256x1024_S256x128_0_0 0 (by norm_num) _

end Cert.KernelIdeal.Hand
-- ==== Proof.Weights.lean ====
module

public import proofs.«01_k».proof.Proof.Blocks
public import Idealize.ShloMosaic.Lib.Pointwise
public import Idealize.ShloMosaic.Lib.Pipeline.ValueKit.Tiles
public import Idealize.ShloMosaic.Lib.IdealHost

@[expose] public section

set_option maxRecDepth 16384

noncomputable section

namespace Cert.KernelIdeal.Hand

open Cert.Hand Cert.KernelIdeal Cert.KernelIdeal.Gen Idealize.ShloMosaic Idealize.ShloMosaic.TcCoe Idealize.SL.Sem

/-- The dequantised weights: each code times the scale of its block of 128 by 128. -/
def wG (x1 : Vec Ideal S32x8 .f32) (x6 : Vec Ideal S4096x1024 .fp8e4m3) (y : S4096x1024.Idx) : EReal :=
  x6 y * x1 (ix2 ⟨(y 0).val / 128, Nat.div_lt_of_lt_mul (y 0).isLt⟩ ⟨(y 1).val / 128, Nat.div_lt_of_lt_mul (y 1).isLt⟩)

/-- A tile of weights is its codes times its scale. -/
theorem wPay_apply (s : EReal) (code : Vec Ideal S128x128 .fp8e4m3) (x : S128x128.Idx) : wPay (F := Ideal) s code x = code x * s := by
  obtain ⟨a, b, rfl⟩ : ∃ a b : Fin 128, x = ix2 a b := ⟨x 0, x 1, eq_ix2 x⟩
  pointwise [wPay]

/-- One block of the weights, placed where it is stored. -/
theorem piece_w {κ κ' : Kind} {sp sp' : Space} (arg2 : Memref sig κ sp S32x8 .f32) (harg2 : arg2.IsWhole) (arg7 : Memref sig κ' sp' S4096x1024 .fp8e4m3) (harg7 : arg7.IsWhole)
    (x1 : Vec Ideal S32x8 .f32) (x6 : Vec Ideal S4096x1024 .fp8e4m3) (off soff : Fin 2 → ℕ) (k n : ℕ)
    (ho : off = ![128 * k, 128 * n]) (hs : soff = ![k, n]) (inb : ∀ a, off a + S128x128.size a ≤ S4096x1024.size a)
    (sinb : ∀ a, soff a + S1x1.size a ≤ S32x8.size a) (h0) (x : (Rect.unit (s := S4096x1024) off S128x128.size inb).shape.Idx) :
    wPay (F := Ideal) (View.readAt (Elt Ideal) arg2.view (Rect.unit (s := S32x8) soff S1x1.size sinb).toLoadRect (harg2.unread x1) (Shape.Idx.first (s := S1x1) h0))
        (View.readAt (Elt Ideal) arg7.view (Rect.unit (s := S4096x1024) off S128x128.size inb).toLoadRect (harg7.unread x6)) x
      = wG x1 x6 ((Rect.unit (s := S4096x1024) off S128x128.size inb).emb x) := by
  subst ho hs
  rw [wPay_apply, View.readAt_eq_ld, View.readAt_eq_ld, harg2.read_unread, harg7.read_unread]
  unfold wG
  have hx0 : (x 0).val < 128 := (x 0).isLt
  have hx1 : (x 1).val < 128 := (x 1).isLt
  refine congrArg₂ (· * ·) rfl (congrArg x1 ?_)
  funext a
  apply Fin.ext
  match a with
  | ⟨0, _⟩ => show k + 1 * 0 = (128 * k + 1 * (x 0).val) / 128; omega
  | ⟨1, _⟩ => show n + 1 * 0 = (128 * n + 1 * (x 1).val) / 128; omega

/-- Where turn `k` of the loop reads and writes column block 0 of the weights. -/
theorem off2_val (k : Fin k0_t1_loop.trips) : k0_off2 k = ![128 * k.val, 128 * 0] := by revert k; decide +kernel

/-- Where turn `k` of the loop reads the scale of column block 0. -/
theorem off1_val (k : Fin k0_t1_loop.trips) : k0_off1 k = ![k.val, 0] := by revert k; decide +kernel

/-- Where turn `k` of the loop reads and writes column block 1 of the weights. -/
theorem off4_val (k : Fin k0_t1_loop.trips) : k0_off4 k = ![128 * k.val, 128 * 1] := by revert k; decide +kernel

/-- Where turn `k` of the loop reads the scale of column block 1. -/
theorem off3_val (k : Fin k0_t1_loop.trips) : k0_off3 k = ![k.val, 1] := by revert k; decide +kernel

/-- Where turn `k` of the loop reads and writes column block 2 of the weights. -/
theorem off6_val (k : Fin k0_t1_loop.trips) : k0_off6 k = ![128 * k.val, 128 * 2] := by revert k; decide +kernel

/-- Where turn `k` of the loop reads the scale of column block 2. -/
theorem off5_val (k : Fin k0_t1_loop.trips) : k0_off5 k = ![k.val, 2] := by revert k; decide +kernel

/-- Where turn `k` of the loop reads and writes column block 3 of the weights. -/
theorem off8_val (k : Fin k0_t1_loop.trips) : k0_off8 k = ![128 * k.val, 128 * 3] := by revert k; decide +kernel

/-- Where turn `k` of the loop reads the scale of column block 3. -/
theorem off7_val (k : Fin k0_t1_loop.trips) : k0_off7 k = ![k.val, 3] := by revert k; decide +kernel

/-- Where turn `k` of the loop reads and writes column block 4 of the weights. -/
theorem off10_val (k : Fin k0_t1_loop.trips) : k0_off10 k = ![128 * k.val, 128 * 4] := by revert k; decide +kernel

/-- Where turn `k` of the loop reads the scale of column block 4. -/
theorem off9_val (k : Fin k0_t1_loop.trips) : k0_off9 k = ![k.val, 4] := by revert k; decide +kernel

/-- Where turn `k` of the loop reads and writes column block 5 of the weights. -/
theorem off12_val (k : Fin k0_t1_loop.trips) : k0_off12 k = ![128 * k.val, 128 * 5] := by revert k; decide +kernel

/-- Where turn `k` of the loop reads the scale of column block 5. -/
theorem off11_val (k : Fin k0_t1_loop.trips) : k0_off11 k = ![k.val, 5] := by revert k; decide +kernel

/-- Where turn `k` of the loop reads and writes column block 6 of the weights. -/
theorem off14_val (k : Fin k0_t1_loop.trips) : k0_off14 k = ![128 * k.val, 128 * 6] := by revert k; decide +kernel

/-- Where turn `k` of the loop reads the scale of column block 6. -/
theorem off13_val (k : Fin k0_t1_loop.trips) : k0_off13 k = ![k.val, 6] := by revert k; decide +kernel

/-- Where turn `k` of the loop reads and writes column block 7 of the weights. -/
theorem off16_val (k : Fin k0_t1_loop.trips) : k0_off16 k = ![128 * k.val, 128 * 7] := by revert k; decide +kernel

/-- Where turn `k` of the loop reads the scale of column block 7. -/
theorem off15_val (k : Fin k0_t1_loop.trips) : k0_off15 k = ![k.val, 7] := by revert k; decide +kernel

variable (c : Dev nD) (i : grid0.Coords) (arg1 : Memref sig .tc .smem S6 .i32) (harg1 : arg1.IsWhole) (arg2 : Memref sig .tc .smem S32x8 .f32) (harg2 : arg2.IsWhole) (arg3 : Memref sig .tc .vmem S1x256x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1x1024 .f32) (harg6 : arg6.IsWhole) (arg7 : Memref sig .tc .vmem S4096x1024 .fp8e4m3) (harg7 : arg7.IsWhole) (arg8 : Memref sig .tc .vmem S1x256x4096 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x256x1024 .fp8e5m2) (harg11 : arg11.IsWhole) (arg12 : Memref sig .tc .vmem S1x256x8 .f32) (harg12 : arg12.IsWhole) (arg13 : Memref sig .tc .vmem S4096x1024 .bf16) (harg13 : arg13.IsWhole) (arg14 : Memref sig .tc .vmem S256x1024 .bf16) (harg14 : arg14.IsWhole)
variable (x0 : Vec Ideal S6 .i32) (x1 : Vec Ideal S32x8 .f32) (x2 : Vec Ideal S1x256x1024 .bf16) (x3 : Vec Ideal S1x1024 .f32) (x4 : Vec Ideal S1x1024 .f32) (x5 : Vec Ideal S1x1x1024 .f32) (x6 : Vec Ideal S4096x1024 .fp8e4m3) (xo8 : Vec Ideal S1x1024 .f32) (xo9 : Vec Ideal S1x1024 .f32) (xs0 : Vec Ideal S4096x1024 .bf16)
variable (hc0 : cond0_0 i)

/-- Every block stored in the first `n` trips is the weights' block of its place. -/
theorem pieces_w (n : ℕ) (hn : n ≤ k0_t1_loop.trips) : ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 hc0 (harg2.unread x1) (harg7.unread x6) n,
    ∀ x : p.1.shape.Idx, p.2 x = wG x1 x6 (p.1.emb x) := by
  induction n with
  | zero => intro p hp; rw [pb_k0_t1.eq_1] at hp; exact absurd hp List.not_mem_nil
  | succ n ih =>
    intro p hp
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 hc0 (harg2.unread x1) (harg7.unread x6) ⟨n, hn⟩, List.mem_append] at hp
    rcases hp with hp | hp
    · rw [trip_pieces] at hp
      simp only [List.mem_cons, List.not_mem_nil, or_false] at hp
      rcases hp with rfl | rfl | rfl | rfl | rfl | rfl | rfl | rfl
      · exact piece_w arg2 harg2 arg7 harg7 x1 x6 _ _ n 7 (off16_val ⟨n, hn⟩) (off15_val ⟨n, hn⟩) _ _ _
      · exact piece_w arg2 harg2 arg7 harg7 x1 x6 _ _ n 6 (off14_val ⟨n, hn⟩) (off13_val ⟨n, hn⟩) _ _ _
      · exact piece_w arg2 harg2 arg7 harg7 x1 x6 _ _ n 5 (off12_val ⟨n, hn⟩) (off11_val ⟨n, hn⟩) _ _ _
      · exact piece_w arg2 harg2 arg7 harg7 x1 x6 _ _ n 4 (off10_val ⟨n, hn⟩) (off9_val ⟨n, hn⟩) _ _ _
      · exact piece_w arg2 harg2 arg7 harg7 x1 x6 _ _ n 3 (off8_val ⟨n, hn⟩) (off7_val ⟨n, hn⟩) _ _ _
      · exact piece_w arg2 harg2 arg7 harg7 x1 x6 _ _ n 2 (off6_val ⟨n, hn⟩) (off5_val ⟨n, hn⟩) _ _ _
      · exact piece_w arg2 harg2 arg7 harg7 x1 x6 _ _ n 1 (off4_val ⟨n, hn⟩) (off3_val ⟨n, hn⟩) _ _ _
      · exact piece_w arg2 harg2 arg7 harg7 x1 x6 _ _ n 0 (off2_val ⟨n, hn⟩) (off1_val ⟨n, hn⟩) _ _ _
    · exact ih (by omega) p hp

/-- The weights' scratch after the first grid point, at an index. -/
theorem sout_A_0_apply (y : S4096x1024.Idx) : sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y = wG x1 x6 y := by
  rw [sout_A_0]
  exact View.canon_apply_of_pieces (wG x1 x6) _ (pieces_w c i arg1 harg1 arg2 harg2 arg3 harg3 arg4 harg4 arg5 harg5 arg6 harg6 arg7 harg7 arg8 harg8 arg9 harg9 arg10 harg10 arg11 harg11 arg12 harg12 arg13 harg13 arg14 harg14 x1 x6 hc0 _ (le_refl _)) y
    (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 y)

/-- The product against the weights, at an index. -/
theorem pay1_apply (a : FVec Ideal S256x1024 .bf16) (w : FVec Ideal S4096x1024 .bf16) (s : Fin 256) (o : Fin 4096) :
    k0_pay1 (F := Ideal) a w (ix3 0 s o) = ∑ d : Fin 1024, a (ix2 s d) * w (ix2 o d) := by
  pointwise [k0_pay1]

end Cert.KernelIdeal.Hand
-- ==== Proof.KInp.lean ====
module

public import proofs.«01_k».proof.Proof.Weights
public import proofs.«01_k».proof.Proof.Gen.KernelIdeal.Value
public import Idealize.ShloMosaic.Lib.Pipeline.ValueKit
public import Idealize.ShloMosaic.Lib.Claim
public import Idealize.ShloMosaic.Lib.Pointwise
public import Idealize.ShloMosaic.Lib.Pipeline.ValueKit.Tiles
public import Idealize.ShloMosaic.Lib.IdealHost

@[expose] public section

set_option maxRecDepth 16384

noncomputable section

namespace Cert.KernelIdeal.Hand

open Cert.Hand Cert.KernelIdeal Cert.KernelIdeal.Gen Idealize.ShloMosaic Idealize.ShloMosaic.TcCoe Idealize.SL.Sem

/-- The inputs of the computation by coordinates: activations, gain, offset, lengths, gradient, weight codes and their scales. -/
structure Inp where
  x : Fin 6 → Fin 256 → Fin 1024 → EReal
  g : Fin 1024 → EReal
  bt : Fin 1024 → EReal
  L : Fin 6 → BitVec 32
  e : Fin 6 → Fin 1024 → EReal
  w : Fin 4096 → Fin 1024 → EReal
  ws : Fin 32 → Fin 8 → EReal

namespace Inp

variable (D : Inp)

/-- The gradient of sequence `b`'s pooled vector over its length, from the kernel's pooled vector. -/
def dK (b : Fin 6) (d : Fin 1024) : EReal := dpl (D.e b) (D.L b) (poolK (D.x b) D.g D.bt (D.L b)) d

/-- The kernel's gradient before the row factor. -/
def vK (b : Fin 6) (s : Fin 256) (d : Fin 1024) : EReal := Cert.Hand.vK (D.x b) D.g (D.dK b) s d

/-- The kernel's row factor. -/
def rK (b : Fin 6) (s : Fin 256) : EReal := row (D.x b) (D.L b) s

/-- The kernel's codes. -/
def codesK (b : Fin 6) (s : Fin 256) (d : Fin 1024) : EReal := codeF (D.rK b) (D.vK b) s d

/-- The kernel's scales. -/
def sclK (b : Fin 6) (s : Fin 256) (k : Fin 8) : EReal := sclF (D.rK b) (D.vK b) s k

/-- The dequantised weights. -/
def wq (o : Fin 4096) (d : Fin 1024) : EReal := D.w o d * D.ws ⟨o.val / 128, by omega⟩ (bOf d)

/-- The kernel's product. -/
def daK (b : Fin 6) (s : Fin 256) (o : Fin 4096) : EReal := ∑ d, D.codesK b s d * D.sclK b s (bOf d) * D.wq o d

end Inp

variable (m : (ℓ : Loc nD τ sig) → Buf (Elt Ideal) ℓ) (c : Dev nD)

/-- The kernel's inputs, read off its argument arrays. -/
def inp : Inp where
  x b s d := (m ((c : Thread nD τ).loc main_arg0) : Vec Ideal S6x256x1024 .bf16) (ix3 b s d)
  g d := (m ((c : Thread nD τ).loc main_arg1) : Vec Ideal S1024 .f32) (ix1 d)
  bt d := (m ((c : Thread nD τ).loc main_arg2) : Vec Ideal S1024 .f32) (ix1 d)
  L b := (m ((c : Thread nD τ).loc main_arg3) : Vec Ideal S6 .i32) (ix1 b)
  e b d := (m ((c : Thread nD τ).loc main_arg4) : Vec Ideal S6x1024 .f32) (ix2 b d)
  w o d := (m ((c : Thread nD τ).loc main_arg5) : Vec Ideal S4096x1024 .fp8e4m3) (ix2 o d)
  ws o d := (m ((c : Thread nD τ).loc main_arg6) : Vec Ideal S32x8 .f32) (ix2 o d)

/-- The window of each grid point: the point number for what goes by sequence, the origin for the rest. -/
theorem idx : ∀ t : Fin cfg0.N, win0_0.index t = ![0] ∧ win0_1.index t = ![0, 0] ∧ win0_2.index t = ![t.val, 0, 0] ∧ win0_3.index t = ![0, 0]
    ∧ win0_4.index t = ![0, 0] ∧ win0_5.index t = ![t.val, 0, 0] ∧ win0_6.index t = ![0, 0] ∧ (grid0.coords t 0).val = t.val := by
  decide +kernel

variable (t : Fin cfg0.N)

/-- The grid point's sequence. -/
def bt (t : Fin cfg0.N) : Fin 6 := ⟨t.val, lt_of_lt_of_eq t.isLt N_0⟩

/-- The block of the lengths is the lengths. -/
theorem blk0 (b : Fin 6) : (iblk m c 0 t : Vec Ideal S6 .i32) (ix1 b) = (inp m c).L b := by
  unfold inp
  blk_ext [iblk, V, idx t]

/-- The block of the weight scales is the weight scales. -/
theorem blk1 (i : Fin 32) (j : Fin 8) : (iblk m c 1 t : Vec Ideal S32x8 .f32) (ix2 i j) = (inp m c).ws i j := by
  unfold inp
  blk_ext [iblk, V, idx t]

/-- The activations' block at a point is the point's sequence. -/
theorem blk2 (s : Fin 256) (d : Fin 1024) : (iblk m c 2 t : Vec Ideal S1x256x1024 .bf16) (ix3 0 s d) = (inp m c).x (bt t) s d := by
  unfold inp bt
  blk_ext [iblk, V, idx t]

/-- The block of the gain is the gain. -/
theorem blk3 (d : Fin 1024) : (iblk m c 3 t : Vec Ideal S1x1024 .f32) (ix2 0 d) = (inp m c).g d := by
  have he : ((cfg0.win 3).blk t).view.emb (ix2 0 d) = ix2 (n0 := 1) (n1 := 1024) 0 d := by
    skip
    blk_ext [idx t]
  have hr : (iblk m c 3 t) (ix2 0 d) = V m c main_v0 (ix2 (n0 := 1) (n1 := 1024) 0 d) := congrArg (V m c main_v0) he
  refine hr.trans ?_
  entry_read
  pointwise
  rfl

/-- The block of the offset is the offset. -/
theorem blk4 (d : Fin 1024) : (iblk m c 4 t : Vec Ideal S1x1024 .f32) (ix2 0 d) = (inp m c).bt d := by
  have he : ((cfg0.win 4).blk t).view.emb (ix2 0 d) = ix2 (n0 := 1) (n1 := 1024) 0 d := by
    skip
    blk_ext [idx t]
  have hr : (iblk m c 4 t) (ix2 0 d) = V m c main_v1 (ix2 (n0 := 1) (n1 := 1024) 0 d) := congrArg (V m c main_v1) he
  refine hr.trans ?_
  entry_read
  pointwise
  rfl

/-- The gradient's block at a point is the point's sequence. -/
theorem blk5 (d : Fin 1024) : (iblk m c 5 t : Vec Ideal S1x1x1024 .f32) (ix3 0 0 d) = (inp m c).e (bt t) d := by
  have he : ((cfg0.win 5).blk t).view.emb (ix3 0 0 d) = ix3 (n0 := 6) (n1 := 1) (n2 := 1024) (bt t) 0 d := by
    unfold bt
    blk_ext [idx t]
  have hr : (iblk m c 5 t) (ix3 0 0 d) = V m c main_v2 (ix3 (n0 := 6) (n1 := 1) (n2 := 1024) (bt t) 0 d) := congrArg (V m c main_v2) he
  refine hr.trans ?_
  entry_read
  pointwise
  rfl

/-- The block of the weight codes is the weight codes. -/
theorem blk6 (o : Fin 4096) (d : Fin 1024) : (iblk m c 6 t : Vec Ideal S4096x1024 .fp8e4m3) (ix2 o d) = (inp m c).w o d := by
  unfold inp
  blk_ext [iblk, V, idx t]

end Cert.KernelIdeal.Hand
-- ==== Proof.KVal.lean ====
module

public import proofs.«01_k».proof.Proof.KInp
public import Idealize.ShloMosaic.Lib.Pointwise
public import Idealize.ShloMosaic.Lib.Pipeline.ValueKit.Tiles
public import Idealize.ShloMosaic.Lib.IdealHost

@[expose] public section

set_option maxRecDepth 16384

noncomputable section

namespace Cert.KernelIdeal.Hand

open Cert.KernelIdeal.Value Cert.Hand Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The length at a point is its sequence's. -/
theorem len_pt : lenOf (grid0.coords t) (iblk m c 0 t : Vec Ideal S6 .i32) = (inp m c).L (bt t) := by
  have h : (grid0.coords t 0 : Fin 6) = bt t := Fin.ext (idx t).2.2.2.2.2.2.2
  exact (blk0 m c t _).trans (congrArg (inp m c).L h)

/-- The activations at a point. -/
theorem X_pt : Xf (iblk m c 2 t : Vec Ideal S1x256x1024 .bf16) = (inp m c).x (bt t) := funext fun s => funext fun d => blk2 m c t s d

/-- The gain at a point. -/
theorem G_pt : Rf (iblk m c 3 t : Vec Ideal S1x1024 .f32) = (inp m c).g := funext fun d => blk3 m c t d

/-- The offset at a point. -/
theorem B_pt : Rf (iblk m c 4 t : Vec Ideal S1x1024 .f32) = (inp m c).bt := funext fun d => blk4 m c t d

/-- The gradient at a point. -/
theorem E_pt : Ef (iblk m c 5 t : Vec Ideal S1x1x1024 .f32) = (inp m c).e (bt t) := funext fun d => blk5 m c t d

/-- The row factors at a grid point, as the kernel's vector. -/
def rowP : FVec Ideal S256x1 .f32 := rowV (lenOf (grid0.coords t) (iblk m c 0 t)) (iblk m c 2 t)

/-- The gradient before the row factor at a grid point, as the kernel's vector. -/
def vP : FVec Ideal S256x1024 .f32 :=
  vV (lenOf (grid0.coords t) (iblk m c 0 t)) (iblk m c 2 t) (iblk m c 3 t) (iblk m c 4 t) (iblk m c 5 t)

/-- The pooled vector's gradient at a point. -/
theorem dK_pt (d : Fin 1024) : dK (lenOf (grid0.coords t) (iblk m c 0 t)) (iblk m c 2 t) (iblk m c 3 t) (iblk m c 4 t) (iblk m c 5 t) d
    = (inp m c).dK (bt t) d := by
  unfold dK Inp.dK
  rw [len_pt, X_pt, G_pt, B_pt, E_pt]

/-- The row factor at a point. -/
theorem row_pt : (fun s => rowP m c t (ix2 s 0)) = (inp m c).rK (bt t) := by
  funext s
  unfold rowP Inp.rK
  rw [rowV_apply, len_pt, X_pt]

/-- The gradient before the row factor at a point. -/
theorem v_pt : (fun s d => vP m c t (ix2 s d)) = (inp m c).vK (bt t) := by
  funext s d
  unfold vP Inp.vK
  rw [vV_apply, X_pt, G_pt]
  exact congrArg (fun f => Cert.Hand.vK _ _ f s d) (funext fun d => dK_pt m c t d)

/-- The codes stored at a point. -/
theorem code_pt (s : Fin 256) (d : Fin 1024) : View.canon (codeL (rowP m c t) (vP m c t)) (ix3 0 s d) = (inp m c).codesK (bt t) s d := by
  rw [canon_code, row_pt, v_pt]
  rfl

/-- The scales stored at a point. -/
theorem scale_pt (s : Fin 256) (k : Fin 8) : View.canon (scaleL (rowP m c t) (vP m c t)) (ix3 0 s k) = (inp m c).sclK (bt t) s k := by
  rw [canon_scale, row_pt, v_pt]
  rfl

/-- The codes times scales stored at a point. -/
theorem dhw_pt (s : Fin 256) (d : Fin 1024) : View.canon (dhwL (rowP m c t) (vP m c t)) (ix2 s d)
    = (inp m c).codesK (bt t) s d * (inp m c).sclK (bt t) s (bOf d) := by
  rw [canon_dhw, row_pt, v_pt]
  rfl

/-- The dequantised weights at a point. -/
theorem w_pt (o : Fin 4096) (d : Fin 1024) : wG (iblk m c 1 t) (iblk m c 6 t) (ix2 o d) = (inp m c).wq o d :=
  congrArg₂ (· * ·) (blk6 m c t o d) (blk1 m c t _ _)

/-- What every grid point leaves in its product, codes and scales, given the weights in the scratch after it; and the scratch. -/
theorem step_out (acc) (h : t.val % 6 = 0 ∨ ∀ o d, acc.2.2.2.2.2 (ix2 o d) = (inp m c).wq o d) :
    (∀ s o, (stAt0 m c t.val t.isLt acc).1 (ix3 0 s o) = (inp m c).daK (bt t) s o)
    ∧ (∀ s d, (stAt0 m c t.val t.isLt acc).2.2.2.1 (ix3 0 s d) = (inp m c).codesK (bt t) s d)
    ∧ (∀ s k, (stAt0 m c t.val t.isLt acc).2.2.2.2.1 (ix3 0 s k) = (inp m c).sclK (bt t) s k)
    ∧ (∀ o d, (stAt0 m c t.val t.isLt acc).2.2.2.2.2 (ix2 o d) = (inp m c).wq o d) := by
  by_cases h0 : t.val % 6 = 0
  · rw [stAt0_A m c t acc h0]
    dsimp only
    rw [out_A_7, out_A_10, out_A_11]
    refine ⟨fun s o => ?_, fun s d => code_pt m c t s d, fun s k => scale_pt m c t s k, fun o d => ?_⟩
    · rw [pay1_apply]
      refine Finset.sum_congr rfl fun d _ => ?_
      rw [sout_A_0_apply, w_pt]
      exact congrArg (· * _) (dhw_pt m c t s d)
    · rw [sout_A_0_apply, w_pt]
  · have h := h.resolve_left h0
    rw [stAt0_B m c t acc h0]
    dsimp only
    rw [out_B_7, out_B_10, out_B_11]
    refine ⟨fun s o => ?_, fun s d => code_pt m c t s d, fun s k => scale_pt m c t s k, fun o d => h o d⟩
    rw [pay1_apply]
    refine Finset.sum_congr rfl fun d _ => ?_
    rw [h]
    exact congrArg (· * _) (dhw_pt m c t s d)

/-- A sequence's contribution to the gain's gradient. -/
def Inp.tg (D : Inp) (b : Fin 6) (d : Fin 1024) : EReal := D.dK b d * sx (D.x b) (D.L b) d

/-- A sequence's contribution to the offset's gradient. -/
def Inp.tb (D : Inp) (b : Fin 6) (d : Fin 1024) : EReal := D.dK b d * cnt (D.L b)

/-- The first point starts the two sums at its own contribution. -/
theorem step_A (acc) (h0 : t.val % 6 = 0) (d : Fin 1024) :
    (stAt0 m c t.val t.isLt acc).2.1 (ix2 0 d) = (inp m c).tg (bt t) d
    ∧ (stAt0 m c t.val t.isLt acc).2.2.1 (ix2 0 d) = (inp m c).tb (bt t) d := by
  rw [stAt0_A m c t acc h0]
  dsimp only
  rw [out_A_8, out_A_9, out8_apply, out9_apply, dK_pt, len_pt, X_pt]
  constructor
  · pointwise [k0_pay10, Inp.tg]
  · pointwise [k0_pay11, Inp.tb]

/-- Every later point adds its contribution to the two sums. -/
theorem step_B (acc) (h0 : ¬t.val % 6 = 0) (d : Fin 1024) :
    (stAt0 m c t.val t.isLt acc).2.1 (ix2 0 d) = acc.2.1 (ix2 0 d) + (inp m c).tg (bt t) d
    ∧ (stAt0 m c t.val t.isLt acc).2.2.1 (ix2 0 d) = acc.2.2.1 (ix2 0 d) + (inp m c).tb (bt t) d := by
  rw [stAt0_B m c t acc h0]
  dsimp only
  rw [out_B_8, out_B_9, out8_apply, out9_apply, dK_pt, len_pt, X_pt]
  exact ⟨rfl, rfl⟩

/-- The state after grid point `n`. -/
abbrev St (n : ℕ) (h : 0 + n < cfg0.N) := Pipeline.accAt (fun n h => stAt0 m c n h junk0) (stAt0 m c) 0 n h

/-- What point `n` leaves in the outputs that go by sequence. -/
theorem St_out (n : ℕ) (h : 0 + n < cfg0.N) :
    (∀ s o, (St m c n h).1 (ix3 0 s o) = (inp m c).daK (bt ⟨0 + n, h⟩) s o)
    ∧ (∀ s d, (St m c n h).2.2.2.1 (ix3 0 s d) = (inp m c).codesK (bt ⟨0 + n, h⟩) s d)
    ∧ (∀ s k, (St m c n h).2.2.2.2.1 (ix3 0 s k) = (inp m c).sclK (bt ⟨0 + n, h⟩) s k)
    ∧ (∀ o d, (St m c n h).2.2.2.2.2 (ix2 o d) = (inp m c).wq o d) := by
  induction n with
  | zero => exact step_out m c ⟨0, h⟩ junk0 (Or.inl rfl)
  | succ n ih => exact step_out m c ⟨0 + (n + 1), h⟩ _ (Or.inr (ih (by omega)).2.2.2)

/-- A sequence's contribution, by number. -/
def ofNat (f : Fin 6 → EReal) (b : ℕ) : EReal := if h : b < 6 then f ⟨b, h⟩ else 0

/-- The two sums after point `n`. -/
theorem St_acc (n : ℕ) (h : 0 + n < cfg0.N) (d : Fin 1024) :
    (St m c n h).2.1 (ix2 0 d) = ∑ b ∈ Finset.range (n + 1), ofNat (fun b => (inp m c).tg b d) b
    ∧ (St m c n h).2.2.1 (ix2 0 d) = ∑ b ∈ Finset.range (n + 1), ofNat (fun b => (inp m c).tb b d) b := by
  have hN : cfg0.N = 6 := N_0
  induction n with
  | zero =>
    rw [Finset.sum_range_one, Finset.sum_range_one]
    exact step_A m c ⟨0, h⟩ junk0 rfl d
  | succ n ih =>
    have e := step_B m c ⟨0 + (n + 1), h⟩ (St m c n (by omega)) (by show ¬(0 + (n + 1)) % 6 = 0; omega) d
    have ih := ih (by omega)
    rw [Finset.sum_range_succ, Finset.sum_range_succ _ (n + 1), ← ih.1, ← ih.2]
    have hn : n + 1 < 6 := by omega
    have hb : bt ⟨0 + (n + 1), h⟩ = ⟨n + 1, hn⟩ := Fin.ext (by show 0 + (n + 1) = n + 1; omega)
    rw [hb] at e
    unfold ofNat
    rw [dif_pos hn, dif_pos hn]
    exact e

/-- The product array, by coordinates. -/
theorem G7_apply (b : Fin 6) (s : Fin 256) (o : Fin 4096) : (G7 m c : Vec Ideal S6x256x4096 .bf16) (ix3 b s o) = (inp m c).daK b s o := by
  have hp : pt7Of (ix3 b s o) = b.val := by
    show 1 * (b.val / 1 - 0) + 1 * (s.val / 256 - 0) + 1 * (o.val / 4096 - 0) = _
    omega
  have hl : loc7Of (ix3 b s o) = ix3 0 s o := by
    funext a; apply Fin.ext
    match a with
    | ⟨0, _⟩ => show b.val % 1 = 0; omega
    | ⟨1, _⟩ => show s.val % 256 = s.val; omega
    | ⟨2, _⟩ => show o.val % 4096 = o.val; omega
  have hN : cfg0.N = 6 := N_0
  unfold G7
  rw [dif_pos (by rw [hp]; omega), hl, fold0_congr m c _ _ b.val (by omega) hp, (St_out m c b.val (by omega)).1]
  congr 1
  exact Fin.ext (by show 0 + b.val = b.val; omega)

/-- The code array, by coordinates. -/
theorem G10_apply (b : Fin 6) (s : Fin 256) (d : Fin 1024) : (G10 m c : Vec Ideal S6x256x1024 .fp8e5m2) (ix3 b s d) = (inp m c).codesK b s d := by
  have hp : pt10Of (ix3 b s d) = b.val := by
    show 1 * (b.val / 1 - 0) + 1 * (s.val / 256 - 0) + 1 * (d.val / 1024 - 0) = _
    omega
  have hl : loc10Of (ix3 b s d) = ix3 0 s d := by
    funext a; apply Fin.ext
    match a with
    | ⟨0, _⟩ => show b.val % 1 = 0; omega
    | ⟨1, _⟩ => show s.val % 256 = s.val; omega
    | ⟨2, _⟩ => show d.val % 1024 = d.val; omega
  have hN : cfg0.N = 6 := N_0
  unfold G10
  rw [dif_pos (by rw [hp]; omega), hl, fold0_congr m c _ _ b.val (by omega) hp, (St_out m c b.val (by omega)).2.1]
  congr 1
  exact Fin.ext (by show 0 + b.val = b.val; omega)

/-- The scale array, by coordinates. -/
theorem G11_apply (b : Fin 6) (s : Fin 256) (k : Fin 8) : (G11 m c : Vec Ideal S6x256x8 .f32) (ix3 b s k) = (inp m c).sclK b s k := by
  have hp : pt11Of (ix3 b s k) = b.val := by
    show 1 * (b.val / 1 - 0) + 1 * (s.val / 256 - 0) + 1 * (k.val / 8 - 0) = _
    omega
  have hl : loc11Of (ix3 b s k) = ix3 0 s k := by
    funext a; apply Fin.ext
    match a with
    | ⟨0, _⟩ => show b.val % 1 = 0; omega
    | ⟨1, _⟩ => show s.val % 256 = s.val; omega
    | ⟨2, _⟩ => show k.val % 8 = k.val; omega
  have hN : cfg0.N = 6 := N_0
  unfold G11
  rw [dif_pos (by rw [hp]; omega), hl, fold0_congr m c _ _ b.val (by omega) hp, (St_out m c b.val (by omega)).2.2.1]
  congr 1
  exact Fin.ext (by show 0 + b.val = b.val; omega)

/-- A sum over the numbers below six is the sum over the sequences. -/
theorem sum_ofNat (f : Fin 6 → EReal) : ∑ b ∈ Finset.range 6, ofNat f b = ∑ b, f b := by
  rw [Finset.sum_range]
  exact Finset.sum_congr rfl fun b _ => dif_pos b.isLt

/-- The gain's gradient, by coordinates. -/
theorem G8_apply (z : Fin 1) (d : Fin 1024) : (G8 m c : Vec Ideal S1x1024 .f32) (ix2 z d) = ∑ b, (inp m c).tg b d := by
  obtain rfl : z = 0 := Subsingleton.elim _ _
  rw [G8_last, ← sum_ofNat]
  exact (St_acc m c 5 _ d).1

/-- The offset's gradient, by coordinates. -/
theorem G9_apply (z : Fin 1) (d : Fin 1024) : (G9 m c : Vec Ideal S1x1024 .f32) (ix2 z d) = ∑ b, (inp m c).tb b d := by
  obtain rfl : z = 0 := Subsingleton.elim _ _
  rw [G9_last, ← sum_ofNat]
  exact (St_acc m c 5 _ d).2

end Cert.KernelIdeal.Hand
-- ==== Proof.RHost.lean ====
module

public import proofs.«01_k».proof.Proof.Math
public import proofs.«01_k».proof.Proof.Gen.ReferenceIdeal.Value
public import Idealize.ShloMosaic.Lib.StableHlo.ReadAt
public import Idealize.ShloMosaic.Lib.Claim
public import Idealize.ShloMosaic.Lib.Pointwise
public import Idealize.ShloMosaic.Lib.Pipeline.ValueKit.Tiles
public import Idealize.ShloMosaic.Lib.IdealHost

@[expose] public section

set_option maxRecDepth 16384

noncomputable section

namespace Cert.ReferenceIdeal.Hand

open Cert.Hand Cert.ReferenceIdeal Cert.ReferenceIdeal.Gen Idealize.ShloMosaic Idealize.ShloMosaic.TcCoe Idealize.SL.Sem

variable (a0 : Vec Ideal S6x256x1024 .bf16) (a1 a2 : Vec Ideal S1024 .f32) (a3 : Vec Ideal S6 .i32) (a4 : Vec Ideal S6x1024 .f32)

/-- The mean of the last axis, kept as an axis of size one. -/
def meanH (x : FVec Ideal S6x256x1024 .f32) : FVec Ideal S6x256x1 .f32 :=
  Host.divf (broadcastInDim S6x256x1 ![0, 1] bcast_S6x256_S6x256x1_0_1
      (Host.reduceAdd x (constant S_ .f32 0x00000000#32) reducesTo_S6x256x1024_S6x256_d2 h_S_))
    (broadcastInDim S6x256x1 ![] bcast_S_S6x256x1 (constant (F := Ideal) S_ .f32 0x44800000#32))

/-- A value per row, spread over the features. -/
def rowH (x : FVec Ideal S6x256x1 .f32) : FVec Ideal S6x256x1024 .f32 :=
  broadcastInDim S6x256x1024 ![0, 1, 2] bcast_S6x256x1_S6x256x1024_0_1_2 x

/-- A value per feature, spread over sequences and rows. -/
def featH (x : FVec Ideal S1024 .f32) : FVec Ideal S6x256x1024 .f32 :=
  broadcastInDim S6x256x1024 ![0, 1, 2] bcast_S1x1x1024_S6x256x1024_0_1_2 (broadcastInDim S1x1x1024 ![2] bcast_S1024_S1x1x1024_2 x)

/-- A value per sequence, spread over the features. -/
def seqH (x : FVec Ideal S6x1 .f32) : FVec Ideal S6x1024 .f32 := broadcastInDim S6x1024 ![0, 1] bcast_S6x1_S6x1024_0_1 x

/-- The sum over the features, one per sequence. -/
def sumH (x : FVec Ideal S6x1024 .f32) : FVec Ideal S6x1 .f32 :=
  broadcastInDim S6x1 ![0] bcast_S6_S6x1_0 (Host.reduceAdd x (constant S_ .f32 0x00000000#32) reducesTo_S6x1024_S6_d1 h_S_)

/-- Rows minus their means. -/
def xcH : FVec Ideal S6x256x1024 .f32 := subf (extf .f32 a0 bitsLt_bf16_f32) (rowH (meanH (extf .f32 a0 bitsLt_bf16_f32)))

/-- The reciprocal deviations of the rows. -/
def rstdH : FVec Ideal S6x256x1 .f32 :=
  Host.rsqrt (addf (meanH (mulf (xcH a0) (xcH a0))) (broadcastInDim S6x256x1 ![] bcast_S_S6x256x1 (constant (F := Ideal) S_ .f32 0x3727C5AC#32)))

/-- The normalised rows. -/
def xhatH : FVec Ideal S6x256x1024 .f32 := mulf (xcH a0) (rowH (rstdH a0))

/-- One within a sequence, zero past its end. -/
def maskH : FVec Ideal S6x256x1024 .f32 :=
  rowH (broadcastInDim S6x256x1 ![0, 1] bcast_S6x256_S6x256x1_0_1 (uitofp .f32 (cmpi .slt
    (broadcastInDim S6x256 ![0, 1] bcast_S1x256_S6x256_0_1 (broadcastInDim S1x256 ![1] bcast_S256_S1x256_1 (iotaInDim S256 32 0)))
    (broadcastInDim S6x256 ![0, 1] bcast_S6x1_S6x256_0_1 (broadcastInDim S6x1 ![0] bcast_S6_S6x1_0 a3)))))

/-- The lengths as numbers. -/
def lenH : FVec Ideal S6x1 .f32 := broadcastInDim S6x1 ![0] bcast_S6_S6x1_0 (sitofp .f32 a3)

/-- The pooled vectors. -/
def poolH : FVec Ideal S6x1024 .f32 :=
  Host.divf (Host.reduceAdd (mulf (maskH a3) (addf (mulf (xhatH a0) (featH a1)) (featH a2))) (constant S_ .f32 0x00000000#32)
    reducesTo_S6x256x1024_S6x1024_d1 h_S_) (seqH (lenH a3))

/-- Their Euclidean norms. -/
def nrmH : FVec Ideal S6x1 .f32 := Host.sqrt (sumH (mulf (poolH a0 a1 a2 a3) (poolH a0 a1 a2 a3)))

/-- The pooled vectors over their norms. -/
def eH : FVec Ideal S6x1024 .f32 := Host.divf (poolH a0 a1 a2 a3) (seqH (nrmH a0 a1 a2 a3))

/-- The pooled vectors' gradients over the lengths. -/
def dplH : FVec Ideal S6x1024 .f32 :=
  Host.divf (Host.divf (subf a4 (mulf (eH a0 a1 a2 a3) (seqH (sumH (mulf (eH a0 a1 a2 a3) a4))))) (seqH (nrmH a0 a1 a2 a3))) (seqH (lenH a3))

/-- The gradient of the layer norm's output. -/
def dyH : FVec Ideal S6x256x1024 .f32 :=
  mulf (maskH a3) (broadcastInDim S6x256x1024 ![0, 1, 2] bcast_S6x1x1024_S6x256x1024_0_1_2
    (broadcastInDim S6x1x1024 ![0, 2] bcast_S6x1024_S6x1x1024_0_2 (dplH a0 a1 a2 a3 a4)))

/-- The gain's gradient. -/
def dgH : FVec Ideal S1x1024 .f32 :=
  shapeCast S1x1024 (Host.reduceAdd (mulf (dyH a0 a1 a2 a3 a4) (xhatH a0)) (constant S_ .f32 0x00000000#32) reducesTo_S6x256x1024_S1024_d0_1 h_S_)
    shapeCasts_S1024_S1x1024

/-- The offset's gradient. -/
def dbH : FVec Ideal S1x1024 .f32 :=
  shapeCast S1x1024 (Host.reduceAdd (dyH a0 a1 a2 a3 a4) (constant S_ .f32 0x00000000#32) reducesTo_S6x256x1024_S1024_d0_1 h_S_)
    shapeCasts_S1024_S1x1024

/-- The gradient of the normalised rows. -/
def dxH : FVec Ideal S6x256x1024 .f32 := mulf (dyH a0 a1 a2 a3 a4) (featH a1)

/-- The gradient of the layer norm's input. -/
def dhH : FVec Ideal S6x256x1024 .f32 :=
  mulf (rowH (rstdH a0)) (subf (subf (dxH a0 a1 a2 a3 a4) (rowH (meanH (dxH a0 a1 a2 a3 a4))))
    (mulf (xhatH a0) (rowH (meanH (mulf (dxH a0 a1 a2 a3 a4) (xhatH a0))))))

variable (dh : FVec Ideal S6x256x1024 .f32)

/-- The largest magnitudes of the blocks. -/
def maxH : FVec Ideal S6x256x8 .f32 :=
  Host.reduce FloatOps.maximumf (Host.absf (shapeCast S6x256x8x128 dh shapeCasts_S6x256x1024_S6x256x8x128)) (constant S_ .f32 0xFF800000#32)
    reducesTo_S6x256x8x128_S6x256x8_d3 h_S_

/-- A block's largest magnitude over the largest code. -/
def cH : FVec Ideal S6x256x8 .f32 :=
  mulf (maxH dh) (broadcastInDim S6x256x8 ![] bcast_S_S6x256x8 (constant (F := Ideal) S_ .f32 0x37924925#32))

/-- The powers of two among which the scale is sought. -/
def powH : FVec Ideal S253 .f32 :=
  Host.powf (broadcastInDim S253 ![] bcast_S_S253 (constant (F := Ideal) S_ .f32 0x40000000#32))
    (addf (broadcastInDim S253 ![] bcast_S_S253 (constant (F := Ideal) S_ .f32 0xC2FA0000#32)) (sitofp .f32 (iotaInDim S253 32 0)))

/-- The least powers of two above the entries. -/
def minH (C : FVec Ideal S6x256x8 .f32) : FVec Ideal S6x256x8 .f32 :=
  Host.reduce FloatOps.minimumf (select (cmpf .olt
        (broadcastInDim S6x256x8x253 ![0, 1, 2, 3] bcast_S6x256x8x1_S6x256x8x253_0_1_2_3 (broadcastInDim S6x256x8x1 ![0, 1, 2] bcast_S6x256x8_S6x256x8x1_0_1_2 C))
        (broadcastInDim S6x256x8x253 ![0, 1, 2, 3] bcast_S1x1x1x253_S6x256x8x253_0_1_2_3 (broadcastInDim S1x1x1x253 ![3] bcast_S253_S1x1x1x253_3 powH)))
        (broadcastInDim S6x256x8x253 ![3] bcast_S253_S6x256x8x253_3 powH)
        (broadcastInDim S6x256x8x253 ![] bcast_S_S6x256x8x253 (constant (F := Ideal) S_ .f32 0x7F800000#32)))
      (constant S_ .f32 0x7F800000#32) reducesTo_S6x256x8x253_S6x256x8_d3 h_S_

/-- The scales of the blocks. -/
def sclH : FVec Ideal S6x256x8 .f32 :=
  select (cmpf .olt (cH dh) (broadcastInDim S6x256x8 ![] bcast_S_S6x256x8 (constant (F := Ideal) S_ .f32 0x00800000#32)))
    (broadcastInDim S6x256x8 ![] bcast_S_S6x256x8 (constant (F := Ideal) S_ .f32 0x3F800000#32))
    (minH (cH dh))

/-- The codes before they are stored. -/
def scaledH : FVec Ideal S6x256x1024 .f32 :=
  shapeCast S6x256x1024 (minimumf (broadcastInDim S6x256x8x128 ![] bcast_S_S6x256x8x128 (constant (F := Ideal) S_ .f32 0x47600000#32))
    (maximumf (broadcastInDim S6x256x8x128 ![] bcast_S_S6x256x8x128 (constant (F := Ideal) S_ .f32 0xC7600000#32))
      (mulf (shapeCast S6x256x8x128 dh shapeCasts_S6x256x1024_S6x256x8x128)
        (broadcastInDim S6x256x8x128 ![0, 1, 2, 3] bcast_S6x256x8x1_S6x256x8x128_0_1_2_3 (broadcastInDim S6x256x8x1 ![0, 1, 2] bcast_S6x256x8_S6x256x8x1_0_1_2
          (Host.divf (broadcastInDim S6x256x8 ![] bcast_S_S6x256x8 (constant (F := Ideal) S_ .f32 0x3F800000#32)) (sclH dh)))))))
    shapeCasts_S6x256x8x128_S6x256x1024

variable (m : (ℓ : Loc nD τ sig) → Buf (Elt Ideal) ℓ) (c : Dev nD)

/-- The gradient of the layer norm's input, off the launch's memory. -/
def dhM : FVec Ideal S6x256x1024 .f32 :=
  dhH (m ((c : Thread nD τ).loc main_arg0)) (m ((c : Thread nD τ).loc main_arg1)) (m ((c : Thread nD τ).loc main_arg2)) (m ((c : Thread nD τ).loc main_arg3)) (m ((c : Thread nD τ).loc main_arg4))

/-- The host leaves the gain's gradient in its result. -/
theorem V_dg : V m c main_v81 = dgH (m ((c : Thread nD τ).loc main_arg0)) (m ((c : Thread nD τ).loc main_arg1)) (m ((c : Thread nD τ).loc main_arg2)) (m ((c : Thread nD τ).loc main_arg3)) (m ((c : Thread nD τ).loc main_arg4)) := by
  unfold V
  after_reads_simp
  rfl

/-- The host leaves the offset's gradient in its result. -/
theorem V_db : V m c main_v82 = dbH (m ((c : Thread nD τ).loc main_arg0)) (m ((c : Thread nD τ).loc main_arg1)) (m ((c : Thread nD τ).loc main_arg2)) (m ((c : Thread nD τ).loc main_arg3)) (m ((c : Thread nD τ).loc main_arg4)) := by
  unfold V
  after_reads_simp
  rfl

/-- The host leaves the scales in their result. -/
theorem V_scl : V m c main_v102 = sclH (dhM m c) := by
  unfold V
  after_reads_simp
  simp -implicitDefEqProofs only [StableHlo.TRef.toBuf, StableHlo.TRef.ofBuf, cast_eq]
  rfl

/-- The host leaves the codes in the region's operand. -/
theorem V_scaled : V m c main_v109 = scaledH (dhM m c) := by
  unfold V
  after_reads_simp
  simp -implicitDefEqProofs only [StableHlo.TRef.toBuf, StableHlo.TRef.ofBuf, cast_eq]
  rfl

end Cert.ReferenceIdeal.Hand
-- ==== Proof.RRead.lean ====
module

public import proofs.«01_k».proof.Proof.RHost
public import proofs.«01_k».proof.Proof.KInp
public import Idealize.ShloMosaic.Lib.Pointwise
public import Idealize.ShloMosaic.Lib.Pipeline.ValueKit.Tiles
public import Idealize.ShloMosaic.Lib.IdealHost

@[expose] public section

set_option maxRecDepth 16384

noncomputable section

namespace Cert.ReferenceIdeal.Hand

open Cert.Hand Cert.ReferenceIdeal Cert.ReferenceIdeal.Gen Idealize.ShloMosaic Idealize.ShloMosaic.TcCoe Idealize.SL.Sem

variable (a0 : Vec Ideal S6x256x1024 .bf16) (a1 a2 : Vec Ideal S1024 .f32) (a3 : Vec Ideal S6 .i32) (a4 : Vec Ideal S6x1024 .f32)

/-- The entries that drop to a feature are those of that feature. -/
theorem fiber01 (h : (⟨3, ![6, 256, 1024]⟩ : Shape).ReducesTo [0, 1] ⟨1, ![1024]⟩) (d : Fin 1024) (i : (⟨3, ![6, 256, 1024]⟩ : Shape).Idx) :
    h.drop i = ix1 d ↔ ∃ k : Fin 6 × Fin 256, ix3 k.1 k.2 d = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, by decide⟩)).symm
  · rintro ⟨k, rfl⟩
    funext b
    apply Fin.ext
    match b with
    | ⟨0, _⟩ => rfl

/-- The sum over sequences and rows of a feature. -/
theorem sum01 (h : (⟨3, ![6, 256, 1024]⟩ : Shape).ReducesTo [0, 1] ⟨1, ![1024]⟩) (v : (⟨3, ![6, 256, 1024]⟩ : Shape).Idx → EReal) (d : Fin 1024) :
    Ideal.hostReduceAdd h v 0 (ix1 d) = ∑ b : Fin 6, ∑ s : Fin 256, v (ix3 b s d) := by
  have h1 : Ideal.hostReduceAdd h v 0 (ix1 d) = 0 + ∑ i ∈ Finset.univ.filter (fun i => h.drop i = ix1 d), v i := rfl
  rw [h1, zero_add]
  refine (Finset.sum_filter_eq_sum_of_fiber _ (fun k : Fin 6 × Fin 256 => ix3 k.1 k.2 d)
    (fun _ _ e => Prod.ext (congrFun e 0) (congrFun e 1)) (fiber01 h d) v).trans ?_
  simp only [Fintype.sum_prod_type]

/-- A sequence's rows. -/
def Xr (b : Fin 6) (s : Fin 256) (d : Fin 1024) : EReal := a0 (ix3 b s d)

/-- A vector by feature. -/
def Fr (x : Vec Ideal S1024 .f32) (d : Fin 1024) : EReal := x (ix1 d)

/-- A sequence's vector by feature. -/
def Er (x : Vec Ideal S6x1024 .f32) (b : Fin 6) (d : Fin 1024) : EReal := x (ix2 b d)

/-- The centred rows. -/
theorem xcH_apply (b : Fin 6) (s : Fin 256) (d : Fin 1024) : xcH a0 (ix3 b s d) = xc (Xr a0 b) s d := by
  pointwise [xcH, rowH, meanH]
  rfl

/-- The reciprocal deviations. -/
theorem rstdH_apply (b : Fin 6) (s : Fin 256) (z : Fin 1) : rstdH a0 (ix3 b s z) = rstd (Xr a0 b) s := by
  pointwise [rstdH, meanH, xcH_apply]
  rfl

/-- The normalised rows. -/
theorem xhatH_apply (b : Fin 6) (s : Fin 256) (d : Fin 1024) : xhatH a0 (ix3 b s d) = xhat (Xr a0 b) s d := by
  pointwise [xhatH, rowH, xcH_apply, rstdH_apply]
  rfl

/-- A row number compared with a length, as a float. -/
theorem uitofp_slt (s : Fin 256) (L : BitVec 32) : FloatOps.uitofp (F := Ideal) .f32 (IntOp.cmpi .slt (BitVec.ofNat 32 s.val) L) = mask L s := by
  have hs : (BitVec.ofNat 32 s.val).toInt = (s.val : ℤ) := by
    have := s.isLt
    rw [BitVec.toInt_ofNat']
    exact Int.bmod_eq_of_le (by omega) (by omega)
  have hc : IntOp.cmpi .slt (BitVec.ofNat 32 s.val) L = BitVec.ofBool (decide ((s.val : ℤ) < L.toInt)) := by
    rw [← hs]; rfl
  rw [hc]
  unfold mask
  by_cases h : (s.val : ℤ) < L.toInt
  · rw [if_pos h, decide_eq_true h]
    show ((((1 : ℕ) : ℝ)) : EReal) = 1
    norm_num
  · rw [if_neg h, decide_eq_false h]
    show ((((0 : ℕ) : ℝ)) : EReal) = 0
    norm_num

/-- The mask. -/
theorem maskH_apply (b : Fin 6) (s : Fin 256) (d : Fin 1024) : maskH a3 (ix3 b s d) = mask (a3 (ix1 b)) s := by
  pointwise [maskH, rowH]
  exact uitofp_slt s _

/-- The lengths. -/
theorem lenH_apply (b : Fin 6) (z : Fin 1) : lenH a3 (ix2 b z) = lenf (a3 (ix1 b)) := by
  pointwise [lenH]
  rfl

/-- The pooled vectors. -/
theorem poolH_apply (b : Fin 6) (d : Fin 1024) : poolH a0 a1 a2 a3 (ix2 b d) = poolR (Xr a0 b) (Fr a1) (Fr a2) (a3 (ix1 b)) d := by
  pointwise [poolH, seqH, featH, maskH_apply, xhatH_apply, lenH_apply]
  rfl

/-- The norms. -/
theorem nrmH_apply (b : Fin 6) (z : Fin 1) : nrmH a0 a1 a2 a3 (ix2 b z) = nrm (poolR (Xr a0 b) (Fr a1) (Fr a2) (a3 (ix1 b))) := by
  pointwise [nrmH, sumH, poolH_apply]
  rfl

/-- The pooled vectors over their norms. -/
theorem eH_apply (b : Fin 6) (d : Fin 1024) : eH a0 a1 a2 a3 (ix2 b d)
    = Ideal.div (poolR (Xr a0 b) (Fr a1) (Fr a2) (a3 (ix1 b)) d) (nrm (poolR (Xr a0 b) (Fr a1) (Fr a2) (a3 (ix1 b)))) := by
  pointwise [eH, seqH, poolH_apply, nrmH_apply]

/-- The gradient of a sequence's pooled vector over its length, from the reference's pooled vector. -/
def dR (b : Fin 6) (d : Fin 1024) : EReal := dpl (Er a4 b) (a3 (ix1 b)) (poolR (Xr a0 b) (Fr a1) (Fr a2) (a3 (ix1 b))) d

/-- The pooled vectors' gradients over the lengths. -/
theorem dplH_apply (b : Fin 6) (d : Fin 1024) : dplH a0 a1 a2 a3 a4 (ix2 b d) = dR a0 a1 a2 a3 a4 b d := by
  pointwise [dplH, seqH, sumH, eH_apply, nrmH_apply, lenH_apply]
  rfl

/-- The gradient of the layer norm's output. -/
theorem dyH_apply (b : Fin 6) (s : Fin 256) (d : Fin 1024) : dyH a0 a1 a2 a3 a4 (ix3 b s d) = mask (a3 (ix1 b)) s * dR a0 a1 a2 a3 a4 b d := by
  pointwise [dyH, maskH_apply, dplH_apply]

/-- The gain's gradient. -/
theorem dgH_apply (z : Fin 1) (d : Fin 1024) : dgH a0 a1 a2 a3 a4 (ix2 z d)
    = ∑ b, ∑ s, mask (a3 (ix1 b)) s * dR a0 a1 a2 a3 a4 b d * xhat (Xr a0 b) s d := by
  pointwise [dgH]
  refine (sum01 _ _ d).trans ?_
  pointwise [dyH_apply, xhatH_apply]

/-- The offset's gradient. -/
theorem dbH_apply (z : Fin 1) (d : Fin 1024) : dbH a0 a1 a2 a3 a4 (ix2 z d)
    = ∑ b, ∑ s, mask (a3 (ix1 b)) s * dR a0 a1 a2 a3 a4 b d := by
  pointwise [dbH]
  refine (sum01 _ _ d).trans ?_
  pointwise [dyH_apply]

/-- The gradient of the normalised rows. -/
theorem dxH_apply (b : Fin 6) (s : Fin 256) (d : Fin 1024) : dxH a0 a1 a2 a3 a4 (ix3 b s d)
    = mask (a3 (ix1 b)) s * dR a0 a1 a2 a3 a4 b d * Fr a1 d := by
  pointwise [dxH, featH, dyH_apply]
  rfl

/-- The gradient of the layer norm's input. -/
theorem dhH_apply (b : Fin 6) (s : Fin 256) (d : Fin 1024) : dhH a0 a1 a2 a3 a4 (ix3 b s d)
    = dhR (Xr a0 b) (Fr a1) (a3 (ix1 b)) (dR a0 a1 a2 a3 a4 b) s d := by
  pointwise [dhH, rowH, meanH, dxH_apply, xhatH_apply, rstdH_apply]
  rfl

variable (dh : FVec Ideal S6x256x1024 .f32)

open Cert.KernelIdeal.Hand (blkF bOf)

/-- A block's largest magnitude over the largest code. -/
def cR (f : Fin 128 → EReal) : EReal := amax f * Ideal.ofBits .f32 0x37924925#32

/-- A maximum over the last axis. -/
theorem max_read (v : FVec Ideal S6x256x8x128 .f32) (b : Fin 6) (s : Fin 256) (k : Fin 8) : Host.reduce FloatOps.maximumf v (constant S_ .f32 0xFF800000#32)
    reducesTo_S6x256x8x128_S6x256x8_d3 h_S_ (ix3 b s k) = (Finset.univ : Finset (Fin 128)).fold max (Ideal.ofBits .f32 0xFF800000#32) (fun j => v (ix4 b s k j)) := by
  pointwise

/-- A minimum over the last axis. -/
theorem min_read (v : FVec Ideal S6x256x8x253 .f32) (b : Fin 6) (s : Fin 256) (k : Fin 8) : Host.reduce FloatOps.minimumf v (constant S_ .f32 0x7F800000#32)
    reducesTo_S6x256x8x253_S6x256x8_d3 h_S_ (ix3 b s k) = (Finset.univ : Finset (Fin 253)).fold min (Ideal.ofBits .f32 0x7F800000#32) (fun j => v (ix4 b s k j)) := by
  pointwise

/-- The features split into blocks. -/
theorem split_read (b : Fin 6) (s : Fin 256) (k : Fin 8) (j : Fin 128) : (shapeCast S6x256x8x128 dh shapeCasts_S6x256x1024_S6x256x8x128) (ix4 b s k j) =
    blkF (fun d => dh (ix3 b s d)) k j := by
  pointwise
  unfold blkF
  simp only [mul_comm]

/-- The blocks joined into features. -/
theorem join_read (v : FVec Ideal S6x256x8x128 .f32) (b : Fin 6) (s : Fin 256) (d : Fin 1024) : (shapeCast S6x256x1024 v shapeCasts_S6x256x8x128_S6x256x1024) (ix3 b s d) =
    v (ix4 b s (bOf d) ⟨d.val % 128, by omega⟩) := by
  pointwise
  rfl

/-- The largest magnitude of a block. -/
theorem maxH_apply (b : Fin 6) (s : Fin 256) (k : Fin 8) : maxH dh (ix3 b s k) = amax (blkF (fun d => dh (ix3 b s d)) k) := by
  unfold maxH
  rw [max_read]
  unfold amax
  refine Finset.fold_congr fun j _ => ?_
  exact congrArg (fun x : EReal => max x (-x)) (split_read dh b s k j)

/-- A product with the constant, entry by entry. -/
theorem mul_read (R : FVec Ideal S6x256x8 .f32) (b : Fin 6) (s : Fin 256) (k : Fin 8) :
    mulf R (broadcastInDim S6x256x8 ![] bcast_S_S6x256x8 (constant (F := Ideal) S_ .f32 0x37924925#32)) (ix3 b s k) = R (ix3 b s k) * Ideal.ofBits .f32 0x37924925#32 := by
  pointwise

/-- The largest magnitude over the largest code. -/
theorem cH_apply (b : Fin 6) (s : Fin 256) (k : Fin 8) : cH dh (ix3 b s k) = cR (blkF (fun d => dh (ix3 b s d)) k) :=
  (mul_read (maxH dh) b s k).trans (congrArg (fun x : EReal => x * Ideal.ofBits .f32 0x37924925#32) (maxH_apply dh b s k))

/-- The powers of two from -125. -/
def powR (j : Fin 253) : EReal := ((Real.rpow 2 (-125 + j.val) : ℝ) : EReal)

/-- The table of powers. -/
theorem powH_apply (j : Fin 253) : powH (ix1 j) = powR j := by
  pointwise [powH]
  have e2 : Ideal.ofBits .f32 0x40000000#32 = ((2 : ℝ) : EReal) := by
    simp [Ideal.ofBits, Ideal.ieee, -EReal.coe_mul, -EReal.coe_neg]; norm_num
  have e125 : Ideal.ofBits .f32 0xC2FA0000#32 = ((-125 : ℝ) : EReal) := by
    simp [Ideal.ofBits, Ideal.ieee, -EReal.coe_mul, -EReal.coe_neg]; norm_num
  have ej : FloatOps.sitofp (F := Ideal) .f32 (BitVec.ofNat 32 j.val) = ((j.val : ℝ) : EReal) := by
    show (((BitVec.ofNat 32 j.val).toInt : ℝ) : EReal) = _
    have := j.isLt
    rw [BitVec.toInt_ofNat', Int.bmod_eq_of_le (by omega) (by omega)]
    rfl
  rw [e2, e125, ej, ← EReal.coe_add, Ideal.pow_coe_coe]
  rfl

/-- The scale of a value: one below the normal numbers, else the least of the powers above it. -/
def sclR (c : EReal) : EReal :=
  if c < Ideal.ofBits .f32 0x00800000#32 then 1
  else (Finset.univ : Finset (Fin 253)).fold min (Ideal.ofBits .f32 0x7F800000#32) (fun j => if c < powR j then powR j else Ideal.ofBits .f32 0x7F800000#32)

/-- The least power above a value. -/
theorem minH_apply (C : FVec Ideal S6x256x8 .f32) (b : Fin 6) (s : Fin 256) (k : Fin 8) : minH C (ix3 b s k)
    = (Finset.univ : Finset (Fin 253)).fold min (Ideal.ofBits .f32 0x7F800000#32) (fun j => if C (ix3 b s k) < powR j then powR j else Ideal.ofBits .f32 0x7F800000#32) := by
  unfold minH
  rw [min_read]
  refine Finset.fold_congr fun j _ => ?_
  pointwise [powH_apply]

/-- The choice between one and the power, entry by entry. -/
theorem pick_read (C R : FVec Ideal S6x256x8 .f32) (b : Fin 6) (s : Fin 256) (k : Fin 8) :
    select (cmpf .olt C (broadcastInDim S6x256x8 ![] bcast_S_S6x256x8 (constant (F := Ideal) S_ .f32 0x00800000#32)))
      (broadcastInDim S6x256x8 ![] bcast_S_S6x256x8 (constant (F := Ideal) S_ .f32 0x3F800000#32)) R (ix3 b s k)
    = if C (ix3 b s k) < Ideal.ofBits .f32 0x00800000#32 then 1 else R (ix3 b s k) := by
  pointwise

/-- The scale of a block. -/
theorem sclH_apply (b : Fin 6) (s : Fin 256) (k : Fin 8) : sclH dh (ix3 b s k) = sclR (cR (blkF (fun d => dh (ix3 b s d)) k)) := by
  refine (pick_read (cH dh) (minH (cH dh)) b s k).trans ?_
  rw [minH_apply, cH_apply]
  rfl

/-- An entry over its scale, clipped. -/
def codeR (s x : EReal) : EReal :=
  min (Ideal.ofBits .f32 0x47600000#32) (max (Ideal.ofBits .f32 0xC7600000#32) (x * Ideal.div 1 s))

/-- The clipped quotient, entry by entry. -/
theorem code_read (X : FVec Ideal S6x256x8x128 .f32) (C : FVec Ideal S6x256x8 .f32) (b : Fin 6) (s : Fin 256) (k : Fin 8) (j : Fin 128) :
    minimumf (broadcastInDim S6x256x8x128 ![] bcast_S_S6x256x8x128 (constant (F := Ideal) S_ .f32 0x47600000#32))
    (maximumf (broadcastInDim S6x256x8x128 ![] bcast_S_S6x256x8x128 (constant (F := Ideal) S_ .f32 0xC7600000#32))
      (mulf X
        (broadcastInDim S6x256x8x128 ![0, 1, 2, 3] bcast_S6x256x8x1_S6x256x8x128_0_1_2_3 (broadcastInDim S6x256x8x1 ![0, 1, 2] bcast_S6x256x8_S6x256x8x1_0_1_2
          (Host.divf (broadcastInDim S6x256x8 ![] bcast_S_S6x256x8 (constant (F := Ideal) S_ .f32 0x3F800000#32)) C))))) (ix4 b s k j)
    = codeR (C (ix3 b s k)) (X (ix4 b s k j)) := by
  pointwise
  rfl

/-- A feature is its block's entry at its place in the block. -/
theorem blkF_self (f : Fin 1024 → EReal) (d : Fin 1024) : blkF f (bOf d) ⟨d.val % 128, by omega⟩ = f d := by
  unfold blkF bOf
  exact congrArg f (Fin.ext (by show 128 * (d.val / 128) + d.val % 128 = d.val; omega))

/-- The clipped quotients of a row. -/
theorem scaledH_apply (b : Fin 6) (s : Fin 256) (d : Fin 1024) : scaledH dh (ix3 b s d)
    = codeR (sclR (cR (blkF (fun d => dh (ix3 b s d)) (bOf d)))) (dh (ix3 b s d)) := by
  refine (join_read _ b s d).trans ?_
  refine (code_read _ (sclH dh) b s (bOf d) _).trans ?_
  rw [sclH_apply, split_read, blkF_self]

end Cert.ReferenceIdeal.Hand
-- ==== Proof.RVal.lean ====
module

public import proofs.«01_k».proof.Proof.RRead
public import Idealize.ShloMosaic.Lib.Pipeline.ValueKit
public import Idealize.ShloMosaic.Lib.Pointwise
public import Idealize.ShloMosaic.Lib.Pipeline.ValueKit.Tiles
public import Idealize.ShloMosaic.Lib.IdealHost

@[expose] public section

set_option maxRecDepth 16384

noncomputable section

namespace Cert.ReferenceIdeal.Hand

open Cert.Hand Cert.ReferenceIdeal Cert.ReferenceIdeal.Gen Cert.ReferenceIdeal.Value Idealize.ShloMosaic Idealize.ShloMosaic.TcCoe Idealize.SL.Sem

open Cert.KernelIdeal.Hand (blkF bOf Inp)

/-! ## The region's two stores, by index -/

/-- The dequantised gradient, rows of all sequences one after another. -/
def dhwF (v0 : FVec Ideal S6x256x1024 .f32) (v6 : FVec Ideal S6x256x8 .f32) : FVec Ideal S1536x1024 .bf16 :=
  shapeCast S1536x1024 (mulf (shapeCast S6x256x8x128 (extf .bf16 (k0_pay1 v0) bitsLt_fp8e5m2_bf16) shapeCasts_S6x256x1024_S6x256x8x128)
    (broadcastTo S6x256x8x128 (truncf .bf16 (shapeCast S6x256x8x1 (shapeCast S6x256x8 v6 shapeCasts_S6x256x8_S6x256x8) shapeCasts_S6x256x8_S6x256x8x1) bitsLt_bf16_f32)
      broadcasts_S6x256x8x1_S6x256x8x128)) shapeCasts_S6x256x8x128_S1536x1024

/-- The dequantised weights. -/
def wwF (v13 : FVec Ideal S4096x1024 .fp8e4m3) (v16 : FVec Ideal S32x8 .f32) : FVec Ideal S4096x1024 .bf16 :=
  shapeCast S4096x1024 (mulf (shapeCast S32x128x8x128 (extf .bf16 v13 bitsLt_fp8e4m3_bf16) shapeCasts_S4096x1024_S32x128x8x128)
    (broadcastTo S32x128x8x128 (truncf .bf16 (shapeCast S32x1x8x1 v16 shapeCasts_S32x8_S32x1x8x1) bitsLt_bf16_f32) broadcasts_S32x1x8x1_S32x128x8x128))
    shapeCasts_S32x128x8x128_S4096x1024

/-- The codes times scales, by coordinates. -/
theorem dhwF_apply (v0 : FVec Ideal S6x256x1024 .f32) (v6 : FVec Ideal S6x256x8 .f32) (r : Fin 1536) (d : Fin 1024) :
    dhwF v0 v6 (ix2 r d) = v0 (ix3 ⟨r.val / 256, by omega⟩ ⟨r.val % 256, by omega⟩ d) * v6 (ix3 ⟨r.val / 256, by omega⟩ ⟨r.val % 256, by omega⟩ (bOf d)) := by
  pointwise [dhwF, k0_pay1]
  rfl

/-- The weights times scales, by coordinates. -/
theorem wwF_apply (v13 : FVec Ideal S4096x1024 .fp8e4m3) (v16 : FVec Ideal S32x8 .f32) (o : Fin 4096) (d : Fin 1024) :
    wwF v13 v16 (ix2 o d) = v13 (ix2 o d) * v16 (ix2 ⟨o.val / 128, by omega⟩ (bOf d)) := by
  pointwise [wwF]
  rfl

/-- The product the body stores, by coordinates. -/
theorem pay2_apply (v0 : Vec Ideal S6x256x1024 .f32) (v6 : Vec Ideal S6x256x8 .f32) (v13 : Vec Ideal S4096x1024 .fp8e4m3) (v16 : Vec Ideal S32x8 .f32)
    (b : Fin 6) (s : Fin 256) (o : Fin 4096) : k0_pay2 (F := Ideal) v0 v6 v13 v16 (ix3 b s o)
    = ∑ d, v0 (ix3 b s d) * v6 (ix3 b s (bOf d)) * (v13 (ix2 o d) * v16 (ix2 ⟨o.val / 128, by omega⟩ (bOf d))) := by
  have h : k0_pay2 (F := Ideal) v0 v6 v13 v16 = shapeCast S6x256x4096 (truncf .bf16 (matmul dot_S1536x1024_S4096x1024_S1536x4096_1_1_0_0_n_n none
    (dhwF v0 v6) (wwF v13 v16) (constant S1536x4096 .f32 0x00000000#32)) bitsLt_bf16_f32) shapeCasts_S1536x4096_S6x256x4096 := rfl
  rw [h]
  pointwise [dhwF_apply, wwF_apply]
  have e1 : (⟨(b.val * 256 + s.val) / 256, by omega⟩ : Fin 6) = b := Fin.ext (by show (b.val * 256 + s.val) / 256 = b.val; omega)
  have e2 : (⟨(b.val * 256 + s.val) % 256, by omega⟩ : Fin 256) = s := Fin.ext (by show (b.val * 256 + s.val) % 256 = s.val; omega)
  rw [e1, e2]

variable (D : Inp)

/-- The gradient of sequence `b`'s pooled vector over its length, from the reference's pooled vector. -/
def _root_.Cert.KernelIdeal.Hand.Inp.dR (b : Fin 6) (d : Fin 1024) : EReal := dpl (D.e b) (D.L b) (poolR (D.x b) D.g D.bt (D.L b)) d

/-- The reference's gradient of the layer norm's input. -/
def _root_.Cert.KernelIdeal.Hand.Inp.dhR (b : Fin 6) (s : Fin 256) (d : Fin 1024) : EReal := Cert.Hand.dhR (D.x b) D.g (D.L b) (D.dR b) s d

/-- The reference's scales. -/
def _root_.Cert.KernelIdeal.Hand.Inp.sclR (b : Fin 6) (s : Fin 256) (k : Fin 8) : EReal := Cert.ReferenceIdeal.Hand.sclR (cR (blkF (D.dhR b s) k))

/-- The reference's codes. -/
def _root_.Cert.KernelIdeal.Hand.Inp.codesR (b : Fin 6) (s : Fin 256) (d : Fin 1024) : EReal := codeR (D.sclR b s (bOf d)) (D.dhR b s d)

/-- The reference's product. -/
def _root_.Cert.KernelIdeal.Hand.Inp.daR (b : Fin 6) (s : Fin 256) (o : Fin 4096) : EReal := ∑ d, D.codesR b s d * D.sclR b s (bOf d) * D.wq o d

/-- The reference's gradient of the gain. -/
def _root_.Cert.KernelIdeal.Hand.Inp.dgR (d : Fin 1024) : EReal := ∑ b, ∑ s, mask (D.L b) s * D.dR b d * xhat (D.x b) s d

/-- The reference's gradient of the offset. -/
def _root_.Cert.KernelIdeal.Hand.Inp.dbR (d : Fin 1024) : EReal := ∑ b, ∑ s, mask (D.L b) s * D.dR b d

variable (m : (ℓ : Loc nD τ sig) → Buf (Elt Ideal) ℓ) (c : Dev nD)

/-- The reference's inputs, read off its argument arrays. -/
def inp : Inp where
  x b s d := (m ((c : Thread nD τ).loc main_arg0) : Vec Ideal S6x256x1024 .bf16) (ix3 b s d)
  g d := (m ((c : Thread nD τ).loc main_arg1) : Vec Ideal S1024 .f32) (ix1 d)
  bt d := (m ((c : Thread nD τ).loc main_arg2) : Vec Ideal S1024 .f32) (ix1 d)
  L b := (m ((c : Thread nD τ).loc main_arg3) : Vec Ideal S6 .i32) (ix1 b)
  e b d := (m ((c : Thread nD τ).loc main_arg4) : Vec Ideal S6x1024 .f32) (ix2 b d)
  w o d := (m ((c : Thread nD τ).loc main_arg5) : Vec Ideal S4096x1024 .fp8e4m3) (ix2 o d)
  ws o d := (m ((c : Thread nD τ).loc main_arg6) : Vec Ideal S32x8 .f32) (ix2 o d)

/-- The layer norm's gradient, by coordinates. -/
theorem dhM_apply (b : Fin 6) (s : Fin 256) (d : Fin 1024) : dhM m c (ix3 b s d) = (inp m c).dhR b s d := by
  unfold dhM
  rw [dhH_apply]
  rfl

/-- The scales, by coordinates. -/
theorem scl_read (b : Fin 6) (s : Fin 256) (k : Fin 8) : sclH (dhM m c) (ix3 b s k) = (inp m c).sclR b s k := by
  have h : (fun d => dhM m c (ix3 b s d)) = (inp m c).dhR b s := funext fun d => dhM_apply m c b s d
  rw [sclH_apply, h]
  rfl

/-- The codes, by coordinates. -/
theorem scaled_read (b : Fin 6) (s : Fin 256) (d : Fin 1024) : scaledH (dhM m c) (ix3 b s d) = (inp m c).codesR b s d := by
  have h : (fun d => dhM m c (ix3 b s d)) = (inp m c).dhR b s := funext fun d => dhM_apply m c b s d
  rw [scaledH_apply, h, dhM_apply]
  rfl

/-- The gain's gradient, by feature. -/
theorem dg_val (z : Fin 1) (d : Fin 1024) : (V m c main_v81 : Vec Ideal S1x1024 .f32) (ix2 z d) = (inp m c).dgR d := by
  rw [V_dg]
  exact dgH_apply _ _ _ _ _ z d

/-- The offset's gradient, by feature. -/
theorem db_val (z : Fin 1) (d : Fin 1024) : (V m c main_v82 : Vec Ideal S1x1024 .f32) (ix2 z d) = (inp m c).dbR d := by
  rw [V_db]
  exact dbH_apply _ _ _ _ _ z d

/-- The scales' result, by coordinates. -/
theorem scl_val (b : Fin 6) (s : Fin 256) (k : Fin 8) : (V m c main_v102 : Vec Ideal S6x256x8 .f32) (ix3 b s k) = (inp m c).sclR b s k := by
  rw [V_scl]
  exact scl_read m c b s k

/-- The one point takes every array whole. -/
theorem idx : ∀ t : Fin cfg0.N, win0_0.index t = ![0, 0, 0] ∧ win0_1.index t = ![0, 0, 0] ∧ win0_2.index t = ![0, 0] ∧ win0_3.index t = ![0, 0]
    ∧ win0_4.index t = ![0, 0, 0] ∧ win0_5.index t = ![0, 0, 0] := by
  decide +kernel

variable (t : Fin cfg0.N)

/-- The whole first array, read by coordinates. -/
theorem read0 (f : Buf (Elt Ideal) ((c : Thread nD τ).loc main_v109)) (b : Fin 6) (s : Fin 256) (d : Fin 1024) :
    (((cfg0.win 0).blk t).view.read (Elt Ideal) f : Vec Ideal S6x256x1024 .f32) (ix3 b s d) = (f : Vec Ideal S6x256x1024 .f32) (ix3 b s d) := by
  have he : ((cfg0.win 0).blk t).view.emb (ix3 b s d) = ix3 (n0 := 6) (n1 := 256) (n2 := 1024) b s d := by
    skip
    blk_ext [idx t]
  exact congrArg f he

/-- The whole second array, read by coordinates. -/
theorem read1 (f : Buf (Elt Ideal) ((c : Thread nD τ).loc main_v102)) (b : Fin 6) (s : Fin 256) (k : Fin 8) :
    (((cfg0.win 1).blk t).view.read (Elt Ideal) f : Vec Ideal S6x256x8 .f32) (ix3 b s k) = (f : Vec Ideal S6x256x8 .f32) (ix3 b s k) := by
  have he : ((cfg0.win 1).blk t).view.emb (ix3 b s k) = ix3 (n0 := 6) (n1 := 256) (n2 := 8) b s k := by
    skip
    blk_ext [idx t]
  exact congrArg f he

/-- The staged quotients. -/
theorem blk0 (b : Fin 6) (s : Fin 256) (d : Fin 1024) : (iblk m c 0 t : Vec Ideal S6x256x1024 .f32) (ix3 b s d) = (inp m c).codesR b s d := by
  refine (read0 c t (V m c main_v109) b s d).trans ?_
  rw [V_scaled]
  exact scaled_read m c b s d

/-- The staged scales. -/
theorem blk1 (b : Fin 6) (s : Fin 256) (k : Fin 8) : (iblk m c 1 t : Vec Ideal S6x256x8 .f32) (ix3 b s k) = (inp m c).sclR b s k := by
  refine (read1 c t (V m c main_v102) b s k).trans ?_
  rw [V_scl]
  exact scl_read m c b s k

/-- The staged weight codes. -/
theorem blk2 (o : Fin 4096) (d : Fin 1024) : (iblk m c 2 t : Vec Ideal S4096x1024 .fp8e4m3) (ix2 o d) = (inp m c).w o d := by
  unfold inp
  blk_ext [iblk, V, idx t]

/-- The staged weight scales. -/
theorem blk3 (i : Fin 32) (j : Fin 8) : (iblk m c 3 t : Vec Ideal S32x8 .f32) (ix2 i j) = (inp m c).ws i j := by
  unfold inp
  blk_ext [iblk, V, idx t]

/-- The codes the body stores. -/
theorem pay1_apply (v0 : Vec Ideal S6x256x1024 .f32) (b : Fin 6) (s : Fin 256) (d : Fin 1024) : k0_pay1 (F := Ideal) v0 (ix3 b s d) = v0 (ix3 b s d) := by
  pointwise [k0_pay1]

/-- The region's codes, as an array. -/
def codesG : Vec Ideal S6x256x1024 .fp8e5m2 := fun i => (inp m c).codesR (i 0) (i 1) (i 2)

/-- The region's product, as an array. -/
def daG : Vec Ideal S6x256x4096 .bf16 := fun i => (inp m c).daR (i 0) (i 1) (i 2)

/-- The stored codes. -/
theorem codes_pt (b : Fin 6) (s : Fin 256) (d : Fin 1024) : k0_pay1 (F := Ideal) (iblk m c 0 t) (ix3 b s d) = codesG m c (ix3 b s d) :=
  (pay1_apply _ b s d).trans (blk0 m c t b s d)

/-- The stored product. -/
theorem da_pt (b : Fin 6) (s : Fin 256) (o : Fin 4096) :
    k0_pay2 (F := Ideal) (iblk m c 0 t) (iblk m c 1 t) (iblk m c 2 t) (iblk m c 3 t) (ix3 b s o) = daG m c (ix3 b s o) := by
  refine (pay2_apply _ _ _ _ b s o).trans ?_
  unfold daG Inp.daR
  refine Finset.sum_congr rfl fun d _ => ?_
  rw [blk0, blk1, blk2, blk3]
  rfl

/-- The product is stored at its own coordinates. -/
theorem emb4 (b : Fin 6) (s : Fin 256) (o : Fin 4096) : ((cfg0.win 4).blk t).view.emb (ix3 b s o) = ix3 (n0 := 6) (n1 := 256) (n2 := 4096) b s o := by
  blk_ext [idx t]

/-- The codes are stored at their own coordinates. -/
theorem emb5 (b : Fin 6) (s : Fin 256) (d : Fin 1024) : ((cfg0.win 5).blk t).view.emb (ix3 b s d) = ix3 (n0 := 6) (n1 := 256) (n2 := 1024) b s d := by
  blk_ext [idx t]

/-- THE CODES after the run. -/
theorem codes_final : (dats m 0 c).arrAt 5 cfg0.N = codesG m c := by
  refine (dats m 0 c).arrAt_eq_of_covers 5 _ (by decide +kernel) fun t hf y => ?_
  blk_simp
  rw [after0_5]
  frame_out
  have hy := eq_ix3 (n0 := 6) (n1 := 256) (n2 := 1024) y
  have h := codes_pt m c t (y 0) (y 1) (y 2)
  rw [← hy] at h
  refine h.trans (congrArg (codesG m c) ?_)
  have he := emb5 t (y 0) (y 1) (y 2)
  rw [← hy] at he
  exact he.symm

/-- THE PRODUCT after the run. -/
theorem da_final : (dats m 0 c).arrAt 4 cfg0.N = daG m c := by
  refine (dats m 0 c).arrAt_eq_of_covers 4 _ (by decide +kernel) fun t hf y => ?_
  blk_simp
  rw [after0_4]
  frame_out
  have hy := eq_ix3 (n0 := 6) (n1 := 256) (n2 := 4096) y
  have h := da_pt m c t (y 0) (y 1) (y 2)
  rw [← hy] at h
  refine h.trans (congrArg (daG m c) ?_)
  have he := emb4 t (y 0) (y 1) (y 2)
  rw [← hy] at he
  exact he.symm

end Cert.ReferenceIdeal.Hand
-- ==== Proof.Scale.lean ====
module

public import proofs.«01_k».proof.Proof.Real
public import proofs.«01_k».proof.Proof.KVal
public import proofs.«01_k».proof.Proof.RVal

@[expose] public section

noncomputable section

namespace Cert.Hand

open Idealize.ShloMosaic Cert.ReferenceIdeal.Hand

/-! ## The scale of a block: the kernel takes it before the row factor, the reference after -/

/-- The start of the maximum. -/
theorem ofBits_ninf : Ideal.ofBits .f32 0xFF800000#32 = ⊥ := by
  simp [Ideal.ofBits, Ideal.ieee]

/-- The start of the minimum. -/
theorem ofBits_pinf : Ideal.ofBits .f32 0x7F800000#32 = ⊤ := by
  simp [Ideal.ofBits, Ideal.ieee]

/-- The least normal number. -/
theorem ofBits_min : Ideal.ofBits .f32 0x00800000#32 = (((2 : ℝ) ^ (-126 : ℤ) : ℝ) : EReal) := by
  simp [Ideal.ofBits, Ideal.ieee, -EReal.coe_mul]
  norm_num

/-- The inverse of the largest code, rounded to single precision. -/
theorem ofBits_K : Ideal.ofBits .f32 0x37924925#32 = (((2 ^ 23 + 1198373) / 2 ^ 39 : ℝ) : EReal) := by
  simp [Ideal.ofBits, Ideal.ieee, -EReal.coe_mul]; norm_num

/-- The absolute value as a maximum. -/
theorem abs_coe (x : ℝ) : max (x : EReal) (-(x : EReal)) = ((|x| : ℝ) : EReal) := by
  rw [← EReal.coe_neg, ← EReal.coe_strictMono.monotone.map_max]
  rfl

/-- The greatest absolute value of a block of reals is the one at an index no other exceeds. -/
theorem amax_eq (h : Fin 128 → ℝ) (j0 : Fin 128) (hm : ∀ j, |h j| ≤ |h j0|) : amax (fun j => (h j : EReal)) = ((|h j0| : ℝ) : EReal) := by
  unfold amax
  refine le_antisymm (Finset.fold_max_le _ |>.2 ⟨by rw [ofBits_ninf]; exact bot_le, fun j _ => ?_⟩) (Finset.le_fold_max _ |>.2 (Or.inr ⟨j0, Finset.mem_univ _, ?_⟩))
  · rw [abs_coe]; exact_mod_cast hm j
  · rw [abs_coe]

/-- A power of the reference's table. -/
theorem powR_eq (j : Fin 253) : powR j = (((2 : ℝ) ^ ((j.val : ℤ) - 125) : ℝ) : EReal) := by
  unfold powR
  congr 1
  rw [← Real.rpow_intCast]
  show (2 : ℝ) ^ ((-125 : ℝ) + (j.val : ℝ)) = _
  congr 1
  push_cast
  ring

/-- The reference's scale of a value whose least power of two above is `2 ^ k`. -/
theorem sclR_eq (c : ℝ) (k : ℤ) (h : (c < (2 : ℝ) ^ (-126 : ℤ) ∧ k = 0) ∨ ((2 : ℝ) ^ (-126 : ℤ) ≤ c ∧ (2 : ℝ) ^ (k - 1) ≤ c ∧ c < (2 : ℝ) ^ k ∧ -125 ≤ k ∧ k ≤ 126)) :
    sclR (c : EReal) = (((2 : ℝ) ^ k : ℝ) : EReal) := by
  unfold sclR
  rw [ofBits_min, ofBits_pinf]
  rcases h with ⟨h, rfl⟩ | ⟨h, hk1, hk, l, u⟩
  · rw [if_pos (by exact_mod_cast h)]
    simp
  · rw [if_neg (by rw [not_lt]; exact_mod_cast h)]
    refine le_antisymm (Finset.fold_min_le _ |>.2 (Or.inr ⟨⟨(k + 125).toNat, by omega⟩, Finset.mem_univ _, ?_⟩)) (Finset.le_fold_min _ |>.2 ⟨le_top, fun j _ => ?_⟩)
    · rw [powR_eq]
      have : (((k + 125).toNat : ℕ) : ℤ) - 125 = k := by omega
      rw [this, if_pos (by exact_mod_cast hk)]
    · split
      · rename_i hj
        rw [powR_eq] at hj ⊢
        have hj' : c < (2 : ℝ) ^ ((j.val : ℤ) - 125) := by exact_mod_cast hj
        have : k - 1 < (j.val : ℤ) - 125 := (zpow_lt_zpow_iff_right₀ (by norm_num : (1 : ℝ) < 2)).1 (hk1.trans_lt hj')
        have h2 : (2 : ℝ) ^ k ≤ (2 : ℝ) ^ ((j.val : ℤ) - 125) := zpow_le_zpow_right₀ (by norm_num) (by omega)
        exact_mod_cast h2
      · exact le_top

/-- THE BLOCK: both programs take the same scale, a power of two; the kernel's other word is its reciprocal. -/
theorem scale_eq (r : ℝ) (hr : 0 ≤ r) (f : Fin 128 → ℝ)
    (hlt : ∀ j, max ((r * f j : ℝ) : EReal) (-((r * f j : ℝ) : EReal)) * Ideal.ofBits .f32 0x37924925#32 < (((2 : ℝ) ^ 126 : ℝ) : EReal)) :
    ∃ k : ℤ, sclS (cS r (fun j => (f j : EReal))) = (((2 : ℝ) ^ k : ℝ) : EReal) ∧ invS (cS r (fun j => (f j : EReal))) = (((2 : ℝ) ^ (-k) : ℝ) : EReal)
      ∧ sclR (cR fun j => ((r * f j : ℝ) : EReal)) = (((2 : ℝ) ^ k : ℝ) : EReal) := by
  obtain ⟨j0, hj0⟩ := Finite.exists_max (fun j => |f j|)
  have e1 : amax (fun j => (f j : EReal)) = ((|f j0| : ℝ) : EReal) := amax_eq f j0 hj0
  have e2 : amax (fun j => ((r * f j : ℝ) : EReal)) = ((|r * f j0| : ℝ) : EReal) :=
    amax_eq (fun j => r * f j) j0 fun j => by
      simp only [abs_mul]
      exact mul_le_mul_of_nonneg_left (hj0 j) (abs_nonneg _)
  have hb : |r * f j0| * ((2 ^ 23 + 1198373) / 2 ^ 39) < 2 ^ 126 := by
    have := hlt j0
    rw [abs_coe, ofBits_K, ← EReal.coe_mul] at this
    exact_mod_cast this
  have a0 : 0 ≤ |r * f j0| := abs_nonneg _
  have ec : cS r (fun j => (f j : EReal)) = ((|r * f j0| * ((2 ^ 23 + 1198373) / 2 ^ 39) : ℝ) : EReal) := by
    unfold cS
    rw [e1, ofBits_K, ← EReal.coe_mul, ← EReal.coe_mul, abs_mul, abs_of_nonneg hr]
  have ec' : cR (fun j => ((r * f j : ℝ) : EReal)) = ((|r * f j0| * ((2 ^ 23 + 1198373) / 2 ^ 39) : ℝ) : EReal) := by
    unfold cR
    rw [e2, ofBits_K, ← EReal.coe_mul]
  obtain ⟨k, h1, h2, h3⟩ := scale_spec (|r * f j0| * ((2 ^ 23 + 1198373) / 2 ^ 39)) (by positivity) hb
  refine ⟨k, ?_, ?_, ?_⟩
  · rw [ec, h1]
  · rw [ec, h2]
  · rw [ec', sclR_eq _ k h3]

/-- THE CODE: dividing by the scale after the row factor is multiplying by the factor times the scale's reciprocal. -/
theorem code_eq (r : ℝ) (f : Fin 128 → ℝ) (x : ℝ) (k : ℤ) (h : invS (cS r (fun j => (f j : EReal))) = (((2 : ℝ) ^ (-k) : ℝ) : EReal)) :
    codeS r (fun j => (f j : EReal)) (x : EReal) = codeR (((2 : ℝ) ^ k : ℝ) : EReal) ((r * x : ℝ) : EReal) := by
  unfold codeS codeR
  have h2 : (2 : ℝ) ^ k ≠ 0 := by positivity
  rw [h, Ideal.div_coe h2, one_mul, ← EReal.coe_mul, ← EReal.coe_mul, ← EReal.coe_mul]
  congr 3
  rw [zpow_neg]
  field_simp

/-- Zero as an extended real. -/
theorem zero_coe : ((0 : ℝ) : EReal) = 0 := rfl

/-- The reference's scale of zero is one. -/
theorem sclR_zero : sclR 0 = 1 := by
  rw [← zero_coe, sclR_eq 0 0 (Or.inl ⟨by positivity, rfl⟩)]
  simp

/-- The kernel's scale of zero is one. -/
theorem sclS_zero : sclS 0 = 1 := by
  obtain ⟨k, h, _, h3⟩ := scale_spec 0 le_rfl (by norm_num)
  have hk : k = 0 := by
    rcases h3 with h3 | h3
    · exact h3.2
    · exact absurd h3.1 (by rw [not_le]; positivity)
  rw [hk] at h
  rw [← zero_coe, h]
  simp

/-- The greatest absolute value of zeros. -/
theorem amax_zero : amax (fun _ => 0) = 0 := by
  have := amax_eq (fun _ => 0) 0 fun _ => le_rfl
  simpa using this

end Cert.Hand

namespace Cert.KernelIdeal.Hand.Inp

open Idealize.ShloMosaic Cert.Hand Cert.KernelIdeal.Hand Cert.ReferenceIdeal.Hand

/-- Inputs in range: real gain and gradient; pooled vectors that are not zero; a layer norm gradient whose scale has a
    reciprocal among the normal numbers. -/
structure Good (D : Inp) : Prop where
  hg : ∀ d, ∃ r : ℝ, D.g d = (r : EReal)
  he : ∀ b d, ∃ r : ℝ, D.e b d = (r : EReal)
  hn : ∀ b, 0 < nrm (poolR (D.x b) D.g D.bt (D.L b))
  hdh : ∀ b s d, max (D.dhR b s d) (-(D.dhR b s d)) * Ideal.ofBits .f32 0x37924925#32 < (((2 : ℝ) ^ 126 : ℝ) : EReal)

variable {D : Inp} (H : D.Good)

include H

/-- A length is zero or positive: a negative one has a zero pooled vector. -/
theorem Good.len (b : Fin 6) : (D.L b).toInt = 0 ∨ 1 ≤ (D.L b).toInt := by
  have h : ¬(D.L b).toInt < 0 := fun h => by
    have := H.hn b
    rw [nrm_neg _ _ _ _ h] at this
    exact lt_irrefl _ this
  omega

/-- A non-empty sequence's gradients, over the reals: the two programs' pooled gradients agree, and the reference's layer norm
    gradient is the kernel's times the row factor. -/
theorem Good.seq (b : Fin 6) (hL : 1 ≤ (D.L b).toInt) : ∃ (δ : Fin 1024 → ℝ) (r : Fin 256 → ℝ) (v : Fin 256 → Fin 1024 → ℝ),
    D.dR b = up δ ∧ D.dK b = up δ ∧ (∀ s, D.rK b s = (r s : EReal)) ∧ (∀ s, 0 ≤ r s) ∧ D.vK b = up2 v
      ∧ D.dhR b = up2 fun s d => r s * v s d := by
  choose g hg using H.hg
  choose e he using H.he b
  have eg : D.g = up g := funext hg
  have ee : D.e b = up e := funext he
  have hp := pool_eq (D.x b) g D.bt (D.L b) hL
  obtain ⟨δ, hδ⟩ := dpl_real e (D.L b) hL _ (H.hn b)
  have dR : D.dR b = up δ := by
    unfold Inp.dR
    rw [ee]
    exact hδ
  have dK : D.dK b = up δ := by
    unfold Inp.dK
    rw [ee, eg, hp, ← eg]
    exact hδ
  obtain ⟨r, v, h1, h2, h3, h4⟩ := grad_eq (D.x b) g (D.L b) δ
  refine ⟨δ, r, v, dR, dK, h1, h2, ?_, ?_⟩
  · unfold Inp.vK
    rw [eg, dK]
    exact h3
  · unfold Inp.dhR
    rw [eg, dR]
    exact h4

/-- The gain's gradient. -/
theorem Good.dg (d : Fin 1024) : ∑ b, D.tg b d = D.dgR d := by
  unfold Inp.dgR
  refine Finset.sum_congr rfl fun b _ => ?_
  unfold Inp.tg
  rcases H.len b with hL | hL
  · rw [sx_empty _ _ hL.le, mul_zero]
    simp only [mask_empty _ hL.le, zero_mul, Finset.sum_const_zero]
  · obtain ⟨δ, r, v, dR, dK, _⟩ := H.seq b hL
    rw [dK, dR]
    exact tg_eq (D.x b) (D.L b) δ d

/-- The offset's gradient. -/
theorem Good.db (d : Fin 1024) : ∑ b, D.tb b d = D.dbR d := by
  unfold Inp.dbR
  refine Finset.sum_congr rfl fun b _ => ?_
  unfold Inp.tb
  rcases H.len b with hL | hL
  · rw [cnt_empty _ hL, mul_zero]
    simp only [mask_empty _ hL.le, zero_mul, Finset.sum_const_zero]
  · obtain ⟨δ, r, v, dR, dK, _⟩ := H.seq b hL
    rw [dK, dR]
    exact tb_eq (D.L b) δ hL d

/-- The scales, and the codes of a block. An empty sequence has scales one and codes zero. -/
theorem Good.block (b : Fin 6) (s : Fin 256) (k : Fin 8) : D.sclK b s k = D.sclR b s k
    ∧ ∀ d, bOf d = k → D.codesK b s d = D.codesR b s d := by
  rcases H.len b with hL | hL
  · have hr : D.rK b s = 0 := row_empty (D.x b) (D.L b) hL.le s
    have hd : ∀ d, D.dhR b s d = 0 := fun d => dhR_empty (D.x b) (D.L b) hL.le D.g (D.dR b) s d
    have eK : D.sclK b s k = 1 := by
      unfold Inp.sclK sclF cS
      rw [hr, zero_mul, zero_mul]
      exact sclS_zero
    have eR : D.sclR b s k = 1 := by
      have h0 : D.dhR b s = fun _ => 0 := funext hd
      unfold Inp.sclR
      rw [h0]
      unfold cR blkF
      rw [amax_zero, zero_mul]
      exact sclR_zero
    refine ⟨eK.trans eR.symm, fun d hk => ?_⟩
    unfold Inp.codesR Inp.codesK codeF codeS codeR
    rw [hr, hd, zero_mul, mul_zero, zero_mul]
  · obtain ⟨δ, r, v, dR, dK, hr, r0, hv, hd⟩ := H.seq b hL
    have lt := H.hdh b s
    rw [hd] at lt
    obtain ⟨p, h1, h2, h3⟩ := scale_eq (r s) (r0 s) (fun j => v s ⟨128 * k.val + j.val, by omega⟩) fun j => lt _
    have eK : D.sclK b s k = (((2 : ℝ) ^ p : ℝ) : EReal) := by
      unfold Inp.sclK sclF
      rw [hr, hv]
      exact h1
    have eR : D.sclR b s k = (((2 : ℝ) ^ p : ℝ) : EReal) := by
      unfold Inp.sclR
      rw [hd]
      exact h3
    refine ⟨eK.trans eR.symm, fun d hk => ?_⟩
    unfold Inp.codesR Inp.codesK codeF
    rw [hk, eR, hd, hr, hv]
    exact code_eq (r s) _ (v s d) p h2

/-- The scales agree. -/
theorem Good.scl (b : Fin 6) (s : Fin 256) (k : Fin 8) : D.sclK b s k = D.sclR b s k := (H.block b s k).1

/-- The codes agree. -/
theorem Good.codes (b : Fin 6) (s : Fin 256) (d : Fin 1024) : D.codesK b s d = D.codesR b s d := (H.block b s (bOf d)).2 d rfl

/-- The product. -/
theorem Good.da (b : Fin 6) (s : Fin 256) (o : Fin 4096) : D.daK b s o = D.daR b s o := by
  unfold Inp.daK Inp.daR
  exact Finset.sum_congr rfl fun d _ => by rw [H.codes, H.scl]

end Cert.KernelIdeal.Hand.Inp
-- ==== Proof.Pre.lean ====
module

public import proofs.«01_k».proof.Proof.Scale
public import proofs.«01_k».proof.Proof.Gen.Pre_in_range
public import proofs.«01_k».proof.Defs
public import Idealize.ShloMosaic.Lib.ReduceAll

@[expose] public section

set_option maxRecDepth 16384

noncomputable section

namespace Cert.Pre_in_range.Hand

open Cert.Hand Cert.Pre_in_range Cert.Pre_in_range.Gen Idealize.ShloMosaic

/-- An array without axes has one index. -/
instance : Subsingleton S_.Idx := ⟨fun a b => funext fun i => i.elim0⟩

/-- `2 ^ 126`, the bound on a scale's argument. -/
theorem ofBits_bound : Ideal.ofBits .f32 0x7E800000#32 = (((2 : ℝ) ^ 126 : ℝ) : EReal) := by
  have h : Ideal.ofBits .f32 0x7E800000#32 = ((85070591730234615865843651857942052864 : ℝ) : EReal) := by
    simp [Ideal.ofBits, Ideal.ieee, -EReal.coe_mul]; norm_num
  rw [h]
  congr 1
  norm_num

/-- A conjunction of truth values that holds. -/
theorem and_split (x y : IVec S_ 1) (h : andi x y = fun _ => 1#1) : (x = fun _ => 1#1) ∧ y = fun _ => 1#1 :=
  ⟨funext fun i => (IntOp.andi_eq_one.1 (congrFun h i)).1, funext fun i => (IntOp.andi_eq_one.1 (congrFun h i)).2⟩

/-- Every entry compared as smaller, when all together are said to be. -/
theorem all_lt {s : Shape} {axes : List (Fin s.rank)} (x : FVec Ideal s .f32) (b : BitVec 32) (hb : S_.BroadcastsInDim s (![] : Fin 0 → Fin s.rank)) (hr : s.ReducesTo axes S_)
    (h : Host.reduce IntOp.andi (cmpf .olt x (broadcastInDim s ![] hb (constant (F := Ideal) S_ .f32 b))) (constantI S_ 1 1#1) hr h_S_ = fun _ => 1#1)
    (i : s.Idx) : (x i : EReal) < Ideal.ofBits .f32 b := by
  have e := Host.reduce_andi_all _ _ hr h_S_ (Shape.Idx.first h_S_) (congrFun h _) i
  by_contra hn
  have : (cmpf .olt x (broadcastInDim s ![] hb (constant (F := Ideal) S_ .f32 b))) i = 0#1 := by
    show BitVec.ofBool (decide ((x i : EReal) < Ideal.ofBits .f32 b)) = 0#1
    rw [decide_eq_false hn]; rfl
  rw [this] at e
  exact absurd e (by decide)

/-- Every norm is positive, when all together are said to be. -/
theorem all_pos (x : FVec Ideal S6x1 .f32)
    (h : Host.reduce IntOp.andi (cmpf .ogt x (broadcastInDim S6x1 ![] bcast_S_S6x1 (constant (F := Ideal) S_ .f32 0x00000000#32))) (constantI S_ 1 1#1) reducesTo_S6x1_S_d0_1 h_S_ = fun _ => 1#1)
    (i : S6x1.Idx) : (0 : EReal) < x i := by
  have e := Host.reduce_andi_all _ _ reducesTo_S6x1_S_d0_1 h_S_ (Shape.Idx.first h_S_) (congrFun h _) i
  by_contra hn
  have : (cmpf .ogt x (broadcastInDim S6x1 ![] bcast_S_S6x1 (constant (F := Ideal) S_ .f32 0x00000000#32))) i = 0#1 := by
    show BitVec.ofBool (decide (Ideal.ofBits .f32 0x00000000#32 < x i)) = 0#1
    rw [show Ideal.ofBits .f32 0x00000000#32 = 0 by simp [Ideal.ofBits, Ideal.ieee], decide_eq_false hn]; rfl
  rw [this] at e
  exact absurd e (by decide)

/-- An extended real whose magnitude is finite is a real. -/
theorem real_of_lt (x : EReal) (h : max x (-x) < Ideal.ofBits .f32 0x7F800000#32) : ∃ r : ℝ, x = (r : EReal) := by
  rw [ofBits_pinf] at h
  induction x using EReal.rec with
  | bot => simp at h
  | coe r => exact ⟨r, rfl⟩
  | top => simp at h

/-- What the range says of the comparisons at its end. -/
theorem part4_read (a1 : FVec Ideal S1024 .f32) (a4 : FVec Ideal S6x1024 .f32) (n : FVec Ideal S6x1 .f32) (dh : FVec Ideal S6x256x1024 .f32)
    (h : fn_part4 (F := Ideal) a4 n dh (Host.absf a1) = fun _ => 1#1) :
    (∀ i, max (a1 i : EReal) (-(a1 i : EReal)) < Ideal.ofBits .f32 0x7F800000#32) ∧ (∀ i, max (a4 i : EReal) (-(a4 i : EReal)) < Ideal.ofBits .f32 0x7F800000#32)
    ∧ (∀ i, (0 : EReal) < n i) ∧ ∀ i, max (dh i : EReal) (-(dh i : EReal)) * Ideal.ofBits .f32 0x37924925#32 < Ideal.ofBits .f32 0x7E800000#32 := by
  unfold fn_part4 fn_part5 at h
  dsimp only at h
  obtain ⟨h, hd⟩ := and_split _ _ h
  obtain ⟨h, hn⟩ := and_split _ _ h
  obtain ⟨h1, h4⟩ := and_split _ _ h
  exact ⟨all_lt _ _ _ _ h1, all_lt _ _ _ _ h4, all_pos _ hn, all_lt _ _ _ _ hd⟩

/-- The range's own forward pass is the reference's. -/
theorem fn_eq (a0 : FVec Ideal S6x256x1024 .bf16) (a1 a2 : FVec Ideal S1024 .f32) (a3 : IVec S6 32) (a4 : FVec Ideal S6x1024 .f32)
    (a5 : FVec Ideal S4096x1024 .fp8e4m3) (a6 : FVec Ideal S32x8 .f32) :
    fn (F := Ideal) a0 a1 a2 a3 a4 a5 a6 = fn_part4 (F := Ideal) a4 (Cert.ReferenceIdeal.Hand.nrmH a0 a1 a2 a3)
      (Cert.ReferenceIdeal.Hand.dhH a0 a1 a2 a3 a4) (Host.absf a1) := rfl

/-- THE RANGE, READ: inputs the precondition admits are good. -/
theorem good (m : (ℓ : Loc Cert.KernelIdeal.nD Cert.KernelIdeal.τ Cert.KernelIdeal.sig) → Buf (Elt Ideal) ℓ) (h : Cert.Pre_KernelIdeal_in_range m)
    (c : Dev Cert.KernelIdeal.nD) : (Cert.KernelIdeal.Hand.inp m c).Good := by
  have e := (fn_eq _ _ _ _ _ _ _).symm.trans (h c)
  obtain ⟨hg, he, hn, hd⟩ := part4_read _ _ _ _ e
  refine ⟨fun d => real_of_lt _ (hg (ix1 d)), fun b d => real_of_lt _ (he (ix2 b d)), fun b => ?_, fun b s d => ?_⟩
  · have := hn (ix2 b 0)
    rw [Cert.ReferenceIdeal.Hand.nrmH_apply] at this
    exact this
  · have := hd (ix3 b s d)
    rw [Cert.ReferenceIdeal.Hand.dhH_apply, ofBits_bound] at this
    exact this

end Cert.Pre_in_range.Hand
-- ==== Proof.Final.lean ====
module

public import proofs.«01_k».proof.Proof.Pre

@[expose] public section

set_option maxRecDepth 16384

noncomputable section

namespace Cert.ReferenceIdeal.Hand

open Cert.Hand Cert.ReferenceIdeal Cert.ReferenceIdeal.Gen Idealize.ShloMosaic Idealize.ShloMosaic.TcCoe Idealize.SL.Sem

/-! ## The reference's results are the kernel's -/

/-- Arrays of two axes that agree at every pair of coordinates. -/
theorem ext2 {a b : ℕ} (u v : (⟨2, ![a, b]⟩ : Shape).Idx → EReal) (h : ∀ i j, u (ix2 i j) = v (ix2 i j)) : u = v :=
  funext fun y => by rw [eq_ix2 y]; exact h _ _

/-- Arrays of three axes that agree at every triple of coordinates. -/
theorem ext3 {a b c : ℕ} (u v : (⟨3, ![a, b, c]⟩ : Shape).Idx → EReal) (h : ∀ i j k, u (ix3 i j k) = v (ix3 i j k)) : u = v :=
  funext fun y => by rw [eq_ix3 y]; exact h _ _ _

variable (m : (ℓ : Loc Cert.KernelIdeal.nD Cert.KernelIdeal.τ Cert.KernelIdeal.sig) → Buf (Elt Ideal) ℓ)
variable (m' : (ℓ : Loc nD τ sig) → Buf (Elt Ideal) ℓ) (c : Dev nD)
variable (H : (Cert.KernelIdeal.Hand.inp m c).Good) (E : inp m' c = Cert.KernelIdeal.Hand.inp m c)

include H E

/-- The product. -/
theorem res0 : daG m' c = Cert.KernelIdeal.Value.G7 m c :=
  ext3 (daG m' c) (Cert.KernelIdeal.Value.G7 m c) fun b s o =>
    (congrArg (fun D : Cert.KernelIdeal.Hand.Inp => D.daR b s o) E).trans ((Cert.KernelIdeal.Hand.G7_apply m c b s o).trans (H.da b s o)).symm

/-- The gain's gradient. -/
theorem res1 : (V m' c main_v81 : Vec Ideal S1x1024 .f32) = Cert.KernelIdeal.Value.G8 m c :=
  ext2 (V m' c main_v81 : Vec Ideal S1x1024 .f32) (Cert.KernelIdeal.Value.G8 m c) fun z d =>
    (dg_val m' c z d).trans ((congrArg (fun D : Cert.KernelIdeal.Hand.Inp => D.dgR d) E).trans ((Cert.KernelIdeal.Hand.G8_apply m c z d).trans (H.dg d)).symm)

/-- The offset's gradient. -/
theorem res2 : (V m' c main_v82 : Vec Ideal S1x1024 .f32) = Cert.KernelIdeal.Value.G9 m c :=
  ext2 (V m' c main_v82 : Vec Ideal S1x1024 .f32) (Cert.KernelIdeal.Value.G9 m c) fun z d =>
    (db_val m' c z d).trans ((congrArg (fun D : Cert.KernelIdeal.Hand.Inp => D.dbR d) E).trans ((Cert.KernelIdeal.Hand.G9_apply m c z d).trans (H.db d)).symm)

/-- The codes. -/
theorem res3 : codesG m' c = Cert.KernelIdeal.Value.G10 m c :=
  ext3 (codesG m' c) (Cert.KernelIdeal.Value.G10 m c) fun b s d =>
    (congrArg (fun D : Cert.KernelIdeal.Hand.Inp => D.codesR b s d) E).trans ((Cert.KernelIdeal.Hand.G10_apply m c b s d).trans (H.codes b s d)).symm

/-- The scales. -/
theorem res4 : (V m' c main_v102 : Vec Ideal S6x256x8 .f32) = Cert.KernelIdeal.Value.G11 m c :=
  ext3 (V m' c main_v102 : Vec Ideal S6x256x8 .f32) (Cert.KernelIdeal.Value.G11 m c) fun b s k =>
    (scl_val m' c b s k).trans ((congrArg (fun D : Cert.KernelIdeal.Hand.Inp => D.sclR b s k) E).trans ((Cert.KernelIdeal.Hand.G11_apply m c b s k).trans (H.scl b s k)).symm)

end Cert.ReferenceIdeal.Hand
-- ==== Proof.lean ====
module

public import proofs.«01_k».proof.Defs
public import proofs.«01_k».proof.Proof.Gen.KernelIdeal.Value
public import proofs.«01_k».proof.Proof.Gen.ReferenceIdeal.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Final
public import Idealize.ShloMosaic.Adequacy
public import Idealize.ShloMosaic.Init

@[expose] public section

noncomputable section

namespace Cert.Proof

open Idealize.ShloMosaic Idealize.SL.Sem Cert.Kernel

/-- THE RESULTS: on inputs in range the two programs leave equal results. -/
theorem values : letI := Cert.KernelIdeal.Gen.facts; letI := Cert.ReferenceIdeal.Gen.facts; letI := Cert.Pre_in_range.Gen.facts
    Cert.algebraic_KernelIdeal_ReferenceIdeal_pre_in_range := by
  intro m g m' g' hp ha
  have H := Cert.Pre_in_range.Hand.good m hp
  have E : ∀ c, Cert.ReferenceIdeal.Hand.inp m' c = Cert.KernelIdeal.Hand.inp m c := by
    intro c
    obtain ⟨h0, h1, h2, h3, h4, h5, h6⟩ := ha c
    unfold Cert.ReferenceIdeal.Hand.inp Cert.KernelIdeal.Hand.inp
    congr 1
    · exact funext fun b => funext fun s => funext fun d => congrFun h0 (ix3 b s d)
    · exact funext fun d => congrFun h1 (ix1 d)
    · exact funext fun d => congrFun h2 (ix1 d)
    · exact funext fun b => congrFun h3 (ix1 b)
    · exact funext fun b => funext fun d => congrFun h4 (ix2 b d)
    · exact funext fun o => funext fun d => congrFun h5 (ix2 o d)
    · exact funext fun o => funext fun d => congrFun h6 (ix2 o d)
  refine ⟨Cert.KernelIdeal.Value.G7 m, Cert.KernelIdeal.Value.G8 m, Cert.KernelIdeal.Value.G9 m, Cert.KernelIdeal.Value.G10 m, Cert.KernelIdeal.Value.G11 m,
    Cert.KernelIdeal.Value.run m g, ?_⟩
  refine (θ_run Cert.ReferenceIdeal.defs _ _).mono (fun r h c => ⟨?_, ?_, ?_, ?_, ?_,
    Cert.ReferenceIdeal.Value.kept_main_arg0 m' r h c, Cert.ReferenceIdeal.Value.kept_main_arg1 m' r h c, Cert.ReferenceIdeal.Value.kept_main_arg2 m' r h c,
    Cert.ReferenceIdeal.Value.kept_main_arg3 m' r h c, Cert.ReferenceIdeal.Value.kept_main_arg4 m' r h c, Cert.ReferenceIdeal.Value.kept_main_arg5 m' r h c,
    Cert.ReferenceIdeal.Value.kept_main_arg6 m' r h c⟩) (Cert.ReferenceIdeal.Gen.run_main m' g')
  · exact (Cert.ReferenceIdeal.Value.post4 m' r h c).trans ((Cert.ReferenceIdeal.Hand.da_final m' c).trans (Cert.ReferenceIdeal.Hand.res0 m m' c (H c) (E c)))
  · exact ((h c).2 Cert.ReferenceIdeal.main_v81 (Pipeline.mem_restRefs_of Cert.ReferenceIdeal.main_v81 (by decide) (by decide))).trans
      (Cert.ReferenceIdeal.Hand.res1 m m' c (H c) (E c))
  · exact ((h c).2 Cert.ReferenceIdeal.main_v82 (Pipeline.mem_restRefs_of Cert.ReferenceIdeal.main_v82 (by decide) (by decide))).trans
      (Cert.ReferenceIdeal.Hand.res2 m m' c (H c) (E c))
  · exact (Cert.ReferenceIdeal.Value.post5 m' r h c).trans ((Cert.ReferenceIdeal.Hand.codes_final m' c).trans (Cert.ReferenceIdeal.Hand.res3 m m' c (H c) (E c)))
  · exact ((h c).1 1).trans (((Cert.ReferenceIdeal.Gen.dats m' 0 c).arrAt_in 1 rfl _).trans
      ((Cert.ReferenceIdeal.Gen.A_eq m' c 1).trans (Cert.ReferenceIdeal.Hand.res4 m m' c (H c) (E c))))

/-- The claims: every program runs to its end with its arguments unchanged, from any start and in range; the kernel's
    idealisation keeps its structure; and the values agree. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, values⟩

end Cert.Proof

end
